-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S3x512x1024 : Shape := ⟨3, ![3, 512, 1024]⟩
abbrev S3x4 : Shape := ⟨2, ![3, 4]⟩
abbrev S_ : Shape := ⟨0, ![]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S3x512x1024, .f32⟩
  | .local _ .vmem, ⟨3, _⟩ => ⟨S3x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v14 : BitVec 32 := Scalar.addi c0_i32_10 v13
  let v15 : BitVec 32 := Scalar.addi v14 c0_i32_11
  let c0_i32_21 : BitVec 32 := 0#32
  ![v15.toNat, 0]
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v16 : BitVec 32 := Scalar.muli v7 c1_i32_17
  let v17 : BitVec 32 := Scalar.addi c0_i32_18 v16
  v17.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v28 : BitVec 32 := Scalar.muli v5 c1_i32_29
  let v29 : BitVec 32 := Scalar.addi c0_i32_30 v28
  v29.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_41 : BitVec 32 := 1#32
  let v40 : BitVec 32 := Scalar.muli v7 c1_i32_41
  let v41 : BitVec 32 := Scalar.addi c0_i32_42 v40
  v41.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_54 : BitVec 32 := 1#32
  let v52 : BitVec 32 := Scalar.muli v5 c1_i32_54
  let v53 : BitVec 32 := Scalar.addi c0_i32_55 v52
  v53.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_66 : BitVec 32 := 1#32
  let v64 : BitVec 32 := Scalar.muli v7 c1_i32_66
  let v65 : BitVec 32 := Scalar.addi c0_i32_67 v64
  v65.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v76 : BitVec 32 := Scalar.muli v5 c1_i32_79
  let v77 : BitVec 32 := Scalar.addi c0_i32_80 v76
  v77.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_90 : BitVec 32 := 1#32
  let v88 : BitVec 32 := Scalar.muli v7 c1_i32_90
  let v89 : BitVec 32 := Scalar.addi c0_i32_91 v88
  v89.toNat
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_103 : BitVec 32 := 1#32
  let v100 : BitVec 32 := Scalar.muli v5 c1_i32_103
  let v101 : BitVec 32 := Scalar.addi c0_i32_104 v100
  v101.toNat
def k0_off2 (d0 : Dev nD) (c1_i32_108 : BitVec 32) (c0_i32_134 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.subi v2 c1_i32_108
  let c4_i32_109 : BitVec 32 := 4#32
  let v110 : BitVec 32 := Scalar.addi v109 c4_i32_109
  let c4_i32_110 : BitVec 32 := 4#32
  let v111 : BitVec 32 := Scalar.remsi v110 c4_i32_110
  let c512_i32_132 : BitVec 32 := 512#32
  let v126 : BitVec 32 := Scalar.muli v111 c512_i32_132
  let v127 : BitVec 32 := Scalar.addi c0_i32_133 v126
  let v128 : BitVec 32 := Scalar.addi v127 c0_i32_134
  let v129 : Index := Scalar.indexCast v128
  let c0 : Index := 0#32
  ![v129.toNat, 0]
def k0_off3 (d0 : Dev nD) (c1_i32_108 : BitVec 32) (c0_i32_144 : BitVec 32) : Fin 2 → Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.subi v2 c1_i32_108
  let c4_i32_109 : BitVec 32 := 4#32
  let v110 : BitVec 32 := Scalar.addi v109 c4_i32_109
  let c4_i32_110 : BitVec 32 := 4#32
  let v111 : BitVec 32 := Scalar.remsi v110 c4_i32_110
  let c512_i32_142 : BitVec 32 := 512#32
  let v140 : BitVec 32 := Scalar.muli v111 c512_i32_142
  let v141 : BitVec 32 := Scalar.addi c0_i32_143 v140
  let v142 : BitVec 32 := Scalar.addi v141 c0_i32_144
  let c0_i32_154 : BitVec 32 := 0#32
  ![v142.toNat, 0]
def k0_dev11 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_150 : BitVec 32 := 1#32
  let v143 : BitVec 32 := Scalar.muli v7 c1_i32_150
  let v144 : BitVec 32 := Scalar.addi c0_i32_151 v143
  v144.toNat
def k0_off4 (d0 : Dev nD) (c2048_i32_175 : BitVec 32) (c1_i32_111 : BitVec 32) (c0_i32_176 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v112 : BitVec 32 := Scalar.addi v2 c1_i32_111
  let c4_i32_112 : BitVec 32 := 4#32
  let v113 : BitVec 32 := Scalar.remsi v112 c4_i32_112
  let c512_i32_174 : BitVec 32 := 512#32
  let v164 : BitVec 32 := Scalar.muli v113 c512_i32_174
  let v165 : BitVec 32 := Scalar.addi c2048_i32_175 v164
  let v166 : BitVec 32 := Scalar.addi v165 c0_i32_176
  let v167 : Index := Scalar.indexCast v166
  let c0_177 : Index := 0#32
  ![v167.toNat, 0]
def k0_off4_at (r : Fin 12) : BitVec 32 × BitVec 32 × BitVec 32 :=
  if r.val < 6 then
    if r.val < 3 then
      if r.val < 1 then
        (2048#32, 1#32, 0#32)
      else
        if r.val < 2 then
          (2048#32, 1#32, 128#32)
        else
          (2048#32, 1#32, 256#32)
    else
      if r.val < 4 then
        (2048#32, 1#32, 384#32)
      else
        if r.val < 5 then
          (2048#32, 2#32, 0#32)
        else
          (2048#32, 2#32, 128#32)
  else
    if r.val < 9 then
      if r.val < 7 then
        (2048#32, 2#32, 256#32)
      else
        if r.val < 8 then
          (2048#32, 2#32, 384#32)
        else
          (0#32, 1#32, 0#32)
    else
      if r.val < 10 then
        (0#32, 1#32, 128#32)
      else
        if r.val < 11 then
          (0#32, 1#32, 256#32)
        else
          (0#32, 1#32, 384#32)
def k0_off5 (d0 : Dev nD) (c2048_i32_186 : BitVec 32) (c1_i32_111 : BitVec 32) (c0_i32_187 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v112 : BitVec 32 := Scalar.addi v2 c1_i32_111
  let c4_i32_112 : BitVec 32 := 4#32
  let v113 : BitVec 32 := Scalar.remsi v112 c4_i32_112
  let c512_i32_185 : BitVec 32 := 512#32
  let v178 : BitVec 32 := Scalar.muli v113 c512_i32_185
  let v179 : BitVec 32 := Scalar.addi c2048_i32_186 v178
  let v180 : BitVec 32 := Scalar.addi v179 c0_i32_187
  let c0_i32_197 : BitVec 32 := 0#32
  ![v180.toNat, 0]
def k0_off5_at (r : Fin 12) : BitVec 32 × BitVec 32 × BitVec 32 :=
  if r.val < 6 then
    if r.val < 3 then
      if r.val < 1 then
        (2048#32, 1#32, 0#32)
      else
        if r.val < 2 then
          (2048#32, 1#32, 128#32)
        else
          (2048#32, 1#32, 256#32)
    else
      if r.val < 4 then
        (2048#32, 1#32, 384#32)
      else
        if r.val < 5 then
          (2048#32, 2#32, 0#32)
        else
          (2048#32, 2#32, 128#32)
  else
    if r.val < 9 then
      if r.val < 7 then
        (2048#32, 2#32, 256#32)
      else
        if r.val < 8 then
          (2048#32, 2#32, 384#32)
        else
          (0#32, 1#32, 0#32)
    else
      if r.val < 10 then
        (0#32, 1#32, 128#32)
      else
        if r.val < 11 then
          (0#32, 1#32, 256#32)
        else
          (0#32, 1#32, 384#32)
def k0_dev12 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_193 : BitVec 32 := 1#32
  let v181 : BitVec 32 := Scalar.muli v5 c1_i32_193
  let v182 : BitVec 32 := Scalar.addi c0_i32_194 v181
  v182.toNat
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_235 : BitVec 32 := 1#32
  let v219 : BitVec 32 := Scalar.muli v7 c1_i32_235
  let v220 : BitVec 32 := Scalar.addi c0_i32_236 v219
  v220.toNat
def k0_dev14 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_278 : BitVec 32 := 1#32
  let v257 : BitVec 32 := Scalar.muli v5 c1_i32_278
  let v258 : BitVec 32 := Scalar.addi c0_i32_279 v257
  v258.toNat
def k0_dev15 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_320 : BitVec 32 := 1#32
  let v295 : BitVec 32 := Scalar.muli v7 c1_i32_320
  let v296 : BitVec 32 := Scalar.addi c0_i32_321 v295
  v296.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_363 : BitVec 32 := 1#32
  let v333 : BitVec 32 := Scalar.muli v5 c1_i32_363
  let v334 : BitVec 32 := Scalar.addi c0_i32_364 v333
  v334.toNat
def k0_dev17 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_405 : BitVec 32 := 1#32
  let v371 : BitVec 32 := Scalar.muli v7 c1_i32_405
  let v372 : BitVec 32 := Scalar.addi c0_i32_406 v371
  v372.toNat
def k0_dev18 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_448 : BitVec 32 := 1#32
  let v409 : BitVec 32 := Scalar.muli v5 c1_i32_448
  let v410 : BitVec 32 := Scalar.addi c0_i32_449 v409
  v410.toNat
def k0_dev19 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_495 : BitVec 32 := 1#32
  let v452 : BitVec 32 := Scalar.muli v7 c1_i32_495
  let v453 : BitVec 32 := Scalar.addi c0_i32_496 v452
  v453.toNat
def k0_dev20 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_538 : BitVec 32 := 1#32
  let v490 : BitVec 32 := Scalar.muli v5 c1_i32_538
  let v491 : BitVec 32 := Scalar.addi c0_i32_539 v490
  v491.toNat
def k0_dev21 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_581 : BitVec 32 := 1#32
  let v528 : BitVec 32 := Scalar.muli v7 c1_i32_581
  let v529 : BitVec 32 := Scalar.addi c0_i32_582 v528
  v529.toNat
def k0_dev22 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_624 : BitVec 32 := 1#32
  let v566 : BitVec 32 := Scalar.muli v5 c1_i32_624
  let v567 : BitVec 32 := Scalar.addi c0_i32_625 v566
  v567.toNat
def k0_dev23 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_667 : BitVec 32 := 1#32
  let v604 : BitVec 32 := Scalar.muli v7 c1_i32_667
  let v605 : BitVec 32 := Scalar.addi c0_i32_668 v604
  v605.toNat
def k0_dev24 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_710 : BitVec 32 := 1#32
  let v642 : BitVec 32 := Scalar.muli v5 c1_i32_710
  let v643 : BitVec 32 := Scalar.addi c0_i32_711 v642
  v643.toNat
def k0_dev25 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_753 : BitVec 32 := 1#32
  let v680 : BitVec 32 := Scalar.muli v7 c1_i32_753
  let v681 : BitVec 32 := Scalar.addi c0_i32_754 v680
  v681.toNat
def k0_dev26 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_796 : BitVec 32 := 1#32
  let v718 : BitVec 32 := Scalar.muli v5 c1_i32_796
  let v719 : BitVec 32 := Scalar.addi c0_i32_797 v718
  v719.toNat
def k0_dev27 (d0 : Dev nD) : Nat :=
  let c0_i32_846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_845 : BitVec 32 := 1#32
  let v764 : BitVec 32 := Scalar.muli v7 c1_i32_845
  let v765 : BitVec 32 := Scalar.addi c0_i32_846 v764
  v765.toNat
def k0_off6 (d0 : Dev nD) (c0_i32_870 : BitVec 32) : Fin 2 → Nat :=
  let c2048_i32_869 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_803 : BitVec 32 := 4#32
  let v729 : BitVec 32 := Scalar.addi v2 c4_i32_803
  let c1_i32_804 : BitVec 32 := 1#32
  let v730 : BitVec 32 := Scalar.subi v729 c1_i32_804
  let c4_i32_805 : BitVec 32 := 4#32
  let v731 : BitVec 32 := Scalar.remsi v730 c4_i32_805
  let c512_i32_868 : BitVec 32 := 512#32
  let v784 : BitVec 32 := Scalar.muli v731 c512_i32_868
  let v785 : BitVec 32 := Scalar.addi c2048_i32_869 v784
  let v786 : BitVec 32 := Scalar.addi v785 c0_i32_870
  let v787 : Index := Scalar.indexCast v786
  let c0_871 : Index := 0#32
  ![v787.toNat, 0]
def k0_off7 (d0 : Dev nD) (c0_i32_884 : BitVec 32) : Fin 2 → Nat :=
  let c2048_i32_883 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_803 : BitVec 32 := 4#32
  let v729 : BitVec 32 := Scalar.addi v2 c4_i32_803
  let c1_i32_804 : BitVec 32 := 1#32
  let v730 : BitVec 32 := Scalar.subi v729 c1_i32_804
  let c4_i32_805 : BitVec 32 := 4#32
  let v731 : BitVec 32 := Scalar.remsi v730 c4_i32_805
  let c512_i32_882 : BitVec 32 := 512#32
  let v801 : BitVec 32 := Scalar.muli v731 c512_i32_882
  let v802 : BitVec 32 := Scalar.addi c2048_i32_883 v801
  let v803 : BitVec 32 := Scalar.addi v802 c0_i32_884
  let c0_i32_891 : BitVec 32 := 0#32
  ![v803.toNat, 0]
def k0_dev28 (d0 : Dev nD) : Nat :=
  let c0_i32_890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_889 : BitVec 32 := 1#32
  let v804 : BitVec 32 := Scalar.muli v5 c1_i32_889
  let v805 : BitVec 32 := Scalar.addi c0_i32_890 v804
  v805.toNat
def k0_dev29 (d0 : Dev nD) : Nat :=
  let c0_i32_934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_933 : BitVec 32 := 1#32
  let v844 : BitVec 32 := Scalar.muli v7 c1_i32_933
  let v845 : BitVec 32 := Scalar.addi c0_i32_934 v844
  v845.toNat
def k0_dev30 (d0 : Dev nD) : Nat :=
  let c0_i32_978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_977 : BitVec 32 := 1#32
  let v884 : BitVec 32 := Scalar.muli v5 c1_i32_977
  let v885 : BitVec 32 := Scalar.addi c0_i32_978 v884
  v885.toNat
def k0_dev31 (d0 : Dev nD) : Nat :=
  let c0_i32_1022 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1021 : BitVec 32 := 1#32
  let v924 : BitVec 32 := Scalar.muli v7 c1_i32_1021
  let v925 : BitVec 32 := Scalar.addi c0_i32_1022 v924
  v925.toNat
def k0_dev32 (d0 : Dev nD) : Nat :=
  let c0_i32_1066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1065 : BitVec 32 := 1#32
  let v964 : BitVec 32 := Scalar.muli v5 c1_i32_1065
  let v965 : BitVec 32 := Scalar.addi c0_i32_1066 v964
  v965.toNat
def k0_dev33 (d0 : Dev nD) : Nat :=
  let c0_i32_1110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1109 : BitVec 32 := 1#32
  let v1004 : BitVec 32 := Scalar.muli v7 c1_i32_1109
  let v1005 : BitVec 32 := Scalar.addi c0_i32_1110 v1004
  v1005.toNat
def k0_dev34 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1153 : BitVec 32 := 1#32
  let v1044 : BitVec 32 := Scalar.muli v5 c1_i32_1153
  let v1045 : BitVec 32 := Scalar.addi c0_i32_1154 v1044
  v1045.toNat
def k0_off8 (d0 : Dev nD) (c1_i32_1158 : BitVec 32) (c0_i32_1185 : BitVec 32) : Fin 2 → Nat :=
  let c0_i32_1184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1157 : BitVec 32 := 1#32
  let v1052 : BitVec 32 := Scalar.addi v2 c1_i32_1157
  let v1053 : BitVec 32 := Scalar.subi v1052 c1_i32_1158
  let c4_i32_1159 : BitVec 32 := 4#32
  let v1054 : BitVec 32 := Scalar.addi v1053 c4_i32_1159
  let c4_i32_1160 : BitVec 32 := 4#32
  let v1055 : BitVec 32 := Scalar.remsi v1054 c4_i32_1160
  let c512_i32_1183 : BitVec 32 := 512#32
  let v1073 : BitVec 32 := Scalar.muli v1055 c512_i32_1183
  let v1074 : BitVec 32 := Scalar.addi c0_i32_1184 v1073
  let v1075 : BitVec 32 := Scalar.addi v1074 c0_i32_1185
  let c0_i32_1192 : BitVec 32 := 0#32
  ![v1075.toNat, 0]
def k0_dev35 (d0 : Dev nD) : Nat :=
  let c0_i32_1191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1190 : BitVec 32 := 1#32
  let v1076 : BitVec 32 := Scalar.muli v7 c1_i32_1190
  let v1077 : BitVec 32 := Scalar.addi c0_i32_1191 v1076
  v1077.toNat
def k0_off9 (d0 : Dev nD) (c1_i32_1162 : BitVec 32) (c0_i32_1214 : BitVec 32) : Fin 2 → Nat :=
  let c2048_i32_1213 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1161 : BitVec 32 := 1#32
  let v1056 : BitVec 32 := Scalar.subi v2 c1_i32_1161
  let v1057 : BitVec 32 := Scalar.addi v1056 c1_i32_1162
  let c4_i32_1163 : BitVec 32 := 4#32
  let v1058 : BitVec 32 := Scalar.addi v1057 c4_i32_1163
  let c4_i32_1164 : BitVec 32 := 4#32
  let v1059 : BitVec 32 := Scalar.remsi v1058 c4_i32_1164
  let c512_i32_1212 : BitVec 32 := 512#32
  let v1097 : BitVec 32 := Scalar.muli v1059 c512_i32_1212
  let v1098 : BitVec 32 := Scalar.addi c2048_i32_1213 v1097
  let v1099 : BitVec 32 := Scalar.addi v1098 c0_i32_1214
  let c0_i32_1221 : BitVec 32 := 0#32
  ![v1099.toNat, 0]
def k0_dev36 (d0 : Dev nD) : Nat :=
  let c0_i32_1220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1219 : BitVec 32 := 1#32
  let v1100 : BitVec 32 := Scalar.muli v5 c1_i32_1219
  let v1101 : BitVec 32 := Scalar.addi c0_i32_1220 v1100
  v1101.toNat
def k0_dev37 (d0 : Dev nD) : Nat :=
  let c0_i32_1249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1248 : BitVec 32 := 1#32
  let v1124 : BitVec 32 := Scalar.muli v7 c1_i32_1248
  let v1125 : BitVec 32 := Scalar.addi c0_i32_1249 v1124
  v1125.toNat
def k0_dev38 (d0 : Dev nD) : Nat :=
  let c0_i32_1278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1277 : BitVec 32 := 1#32
  let v1148 : BitVec 32 := Scalar.muli v5 c1_i32_1277
  let v1149 : BitVec 32 := Scalar.addi c0_i32_1278 v1148
  v1149.toNat
def k0_dev39 (d0 : Dev nD) : Nat :=
  let c0_i32_1307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1306 : BitVec 32 := 1#32
  let v1172 : BitVec 32 := Scalar.muli v7 c1_i32_1306
  let v1173 : BitVec 32 := Scalar.addi c0_i32_1307 v1172
  v1173.toNat
def k0_dev40 (d0 : Dev nD) : Nat :=
  let c0_i32_1336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1335 : BitVec 32 := 1#32
  let v1196 : BitVec 32 := Scalar.muli v5 c1_i32_1335
  let v1197 : BitVec 32 := Scalar.addi c0_i32_1336 v1196
  v1197.toNat
def k0_dev41 (d0 : Dev nD) : Nat :=
  let c0_i32_1365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1364 : BitVec 32 := 1#32
  let v1220 : BitVec 32 := Scalar.muli v7 c1_i32_1364
  let v1221 : BitVec 32 := Scalar.addi c0_i32_1365 v1220
  v1221.toNat
def k0_dev42 (d0 : Dev nD) : Nat :=
  let c0_i32_1394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1393 : BitVec 32 := 1#32
  let v1244 : BitVec 32 := Scalar.muli v5 c1_i32_1393
  let v1245 : BitVec 32 := Scalar.addi c0_i32_1394 v1244
  v1245.toNat
def k0_dev43 (d0 : Dev nD) : Nat :=
  let c0_i32_1431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1430 : BitVec 32 := 1#32
  let v1276 : BitVec 32 := Scalar.muli v7 c1_i32_1430
  let v1277 : BitVec 32 := Scalar.addi c0_i32_1431 v1276
  v1277.toNat
def k0_dev44 (d0 : Dev nD) : Nat :=
  let c0_i32_1460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1459 : BitVec 32 := 1#32
  let v1300 : BitVec 32 := Scalar.muli v5 c1_i32_1459
  let v1301 : BitVec 32 := Scalar.addi c0_i32_1460 v1300
  v1301.toNat
def k0_dev45 (d0 : Dev nD) : Nat :=
  let c0_i32_1489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1488 : BitVec 32 := 1#32
  let v1324 : BitVec 32 := Scalar.muli v7 c1_i32_1488
  let v1325 : BitVec 32 := Scalar.addi c0_i32_1489 v1324
  v1325.toNat
def k0_dev46 (d0 : Dev nD) : Nat :=
  let c0_i32_1518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1517 : BitVec 32 := 1#32
  let v1348 : BitVec 32 := Scalar.muli v5 c1_i32_1517
  let v1349 : BitVec 32 := Scalar.addi c0_i32_1518 v1348
  v1349.toNat
def k0_dev47 (d0 : Dev nD) : Nat :=
  let c0_i32_1547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1546 : BitVec 32 := 1#32
  let v1372 : BitVec 32 := Scalar.muli v7 c1_i32_1546
  let v1373 : BitVec 32 := Scalar.addi c0_i32_1547 v1372
  v1373.toNat
def k0_dev48 (d0 : Dev nD) : Nat :=
  let c0_i32_1576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1575 : BitVec 32 := 1#32
  let v1396 : BitVec 32 := Scalar.muli v5 c1_i32_1575
  let v1397 : BitVec 32 := Scalar.addi c0_i32_1576 v1396
  v1397.toNat
def k0_dev49 (d0 : Dev nD) : Nat :=
  let c0_i32_1605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1604 : BitVec 32 := 1#32
  let v1420 : BitVec 32 := Scalar.muli v7 c1_i32_1604
  let v1421 : BitVec 32 := Scalar.addi c0_i32_1605 v1420
  v1421.toNat
def k0_dev50 (d0 : Dev nD) : Nat :=
  let c0_i32_1634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1633 : BitVec 32 := 1#32
  let v1444 : BitVec 32 := Scalar.muli v5 c1_i32_1633
  let v1445 : BitVec 32 := Scalar.addi c0_i32_1634 v1444
  v1445.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
module

public import proofs.«01_k».proof.Proof.Gen.KernelIdeal.Skeleton
public import proofs.«01_k».proof.Proof.Gen.KernelIdeal.Frame

@[expose] public section

set_option maxRecDepth 16384

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-! # The kernel's body as two rings of hops

The body moves the array round the four devices in two directions at once. A DIRECTION is a `Bool`: `false`
sends the upper half of the rows to the right neighbour, `true` the lower half to the left neighbour. In each
direction there are six HOPS, three of the reduce-scatter and three of the all-gather, and each hop moves four
SUB-BLOCKS `j` of 128 rows. This module writes the body as that double loop. -/

/-- Where hop `h` of a direction finds the rows it sends, on device `d`: the printed offsets. -/
def srcOff : Bool → Fin 6 → Fin 4 → Dev nD → Fin 2 → Nat
  | false, 0, j, d => k0_off1 d (BitVec.ofNat 32 0) (BitVec.ofNat 32 (128 * j.val))
  | false, 1, j, d => k0_off3 d (BitVec.ofNat 32 1) (BitVec.ofNat 32 (128 * j.val))
  | false, 2, j, d => k0_off3 d (BitVec.ofNat 32 2) (BitVec.ofNat 32 (128 * j.val))
  | false, 3, j, d => k0_off5 d (BitVec.ofNat 32 0) (BitVec.ofNat 32 1) (BitVec.ofNat 32 (128 * j.val))
  | false, 4, j, d => k0_off8 d (BitVec.ofNat 32 1) (BitVec.ofNat 32 (128 * j.val))
  | false, 5, j, d => k0_off8 d (BitVec.ofNat 32 2) (BitVec.ofNat 32 (128 * j.val))
  | true, 0, j, d => k0_off1 d (BitVec.ofNat 32 2048) (BitVec.ofNat 32 (128 * j.val))
  | true, 1, j, d => k0_off5 d (BitVec.ofNat 32 2048) (BitVec.ofNat 32 1) (BitVec.ofNat 32 (128 * j.val))
  | true, 2, j, d => k0_off5 d (BitVec.ofNat 32 2048) (BitVec.ofNat 32 2) (BitVec.ofNat 32 (128 * j.val))
  | true, 3, j, d => k0_off7 d (BitVec.ofNat 32 (128 * j.val))
  | true, 4, j, d => k0_off9 d (BitVec.ofNat 32 1) (BitVec.ofNat 32 (128 * j.val))
  | true, 5, j, d => k0_off9 d (BitVec.ofNat 32 2) (BitVec.ofNat 32 (128 * j.val))

/-- Where addition number `s` of a direction reads its own rows and leaves the sum, on device `d`: the printed offsets. -/
def addOff : Bool → Fin 3 → Fin 4 → Dev nD → Fin 2 → Nat
  | false, 0, j, d => k0_off2 d (BitVec.ofNat 32 1) (BitVec.ofNat 32 (128 * j.val))
  | false, 1, j, d => k0_off2 d (BitVec.ofNat 32 2) (BitVec.ofNat 32 (128 * j.val))
  | false, 2, j, d => k0_off4 d (BitVec.ofNat 32 0) (BitVec.ofNat 32 1) (BitVec.ofNat 32 (128 * j.val))
  | true, 0, j, d => k0_off4 d (BitVec.ofNat 32 2048) (BitVec.ofNat 32 1) (BitVec.ofNat 32 (128 * j.val))
  | true, 1, j, d => k0_off4 d (BitVec.ofNat 32 2048) (BitVec.ofNat 32 2) (BitVec.ofNat 32 (128 * j.val))
  | true, 2, j, d => k0_off6 d (BitVec.ofNat 32 (128 * j.val))

/-- The chunk that hop `h` of direction `b` sends from device `d`: `d - h` to the right, `d + h` to the left. -/
def chunk (b : Bool) (h : Nat) (d : Dev nD) : Fin 4 := bif b then ⟨(d.val + h) % 4, Nat.mod_lt _ (by decide)⟩ else ⟨(d.val + 3 * h) % 4, Nat.mod_lt _ (by decide)⟩

/-- The first row of sub-block `j` of chunk `c` in direction `b`'s half. -/
def row (b : Bool) (c j : Fin 4) : Nat := (bif b then 2048 else 0) + 512 * c.val + 128 * j.val

theorem srcOff_eq : ∀ (b : Bool) (h : Fin 6) (j : Fin 4) (d : Dev nD),
    srcOff b h j d = ![row b (chunk b h.val d) j, 0] := by decide +kernel

theorem addOff_eq : ∀ (b : Bool) (s : Fin 3) (j : Fin 4) (d : Dev nD),
    addOff b s j d = ![row b (chunk b (s.val + 1) d) j, 0] := by decide +kernel

theorem row_inb (b : Bool) (c j : Fin 4) : ∀ a, (![row b c j, 0] : Fin 2 → Nat) a + S128x1024.size a ≤ S4096x1024.size a := by
  revert b c j; decide +kernel

theorem srcOff_inb (b : Bool) (h : Fin 6) (j : Fin 4) (d : Dev nD) :
    ∀ a, srcOff b h j d a + S128x1024.size a ≤ S4096x1024.size a := by
  rw [srcOff_eq]; exact row_inb _ _ _

theorem addOff_inb (b : Bool) (s : Fin 3) (j : Fin 4) (d : Dev nD) :
    ∀ a, addOff b s j d a + S128x1024.size a ≤ S4096x1024.size a := by
  rw [addOff_eq]; exact row_inb _ _ _

theorem slot_inb (s : Fin 3) (j : Fin 4) :
    ∀ a, (![s.val, 128 * j.val, 0] : Fin 3 → Nat) a + S1x128x1024.size a ≤ S3x512x1024.size a := by
  revert s j; decide +kernel

/-- The neighbour a direction sends to. -/
def nbr : Bool → Dev nD → Dev nD
  | false, d => ⟨k0_dev3 d, k0_dev3_lt d⟩
  | true, d => ⟨k0_dev4 d, k0_dev4_lt d⟩

theorem nbr_eq : ∀ (b : Bool) (d : Dev nD), (nbr b d).val = (d.val + bif b then 3 else 1) % 4 := by decide +kernel

/-- The argument array as staged, the result array as staged, the two receive buffers. -/
abbrev xM : Memref sig .tc .vmem S4096x1024 .f32 := win0_0.stage (cfg0.slots t0_0 0)
abbrev oM : Memref sig .tc .vmem S4096x1024 .f32 := win0_1.stage (cfg0.slots t0_0 1)
abbrev rM : Bool → Memref sig .tc .vmem S3x512x1024 .f32
  | false => Memref.whole cc0_scratch0
  | true => Memref.whole cc0_scratch1

/-- A block of 128 rows of a whole array, at an offset. -/
abbrev blkAt (M : Memref sig .tc .vmem S4096x1024 .f32) (o : Fin 2 → Nat) (ho : ∀ a, o a + S128x1024.size a ≤ S4096x1024.size a) :
    Memref sig .tc .vmem S128x1024 .f32 :=
  M.slice (Rect.unit (s := S4096x1024) o S128x1024.size ho) (fun _ => rfl)

/-- Slot `s` of a receive buffer, sub-block `j`. -/
abbrev slotM (b : Bool) (s : Fin 3) (j : Fin 4) : Memref sig .tc .vmem S128x1024 .f32 :=
  ((rM b).slice (Rect.unit (s := S3x512x1024) ![s.val, 128 * j.val, 0] S1x128x1024.size (slot_inb s j)) (fun _ => rfl)).squeeze
    S128x1024 squeezes_S1x128x1024_S128x1024

/-- The semaphore of the departures of hop `h`, sub-block `j`; -/
def sSem (b : Bool) (h : Fin 6) (j : Fin 4) : DmaSem sig :=
  ⟨(if h.val < 3 then bif b then 26 else 2 else bif b then 74 else 50) + 4 * (h.val % 3) + j.val, by
    have := j.isLt; have : h.val % 3 < 3 := Nat.mod_lt _ (by decide)
    cases b <;> simp only [cond_true, cond_false] <;> split <;> (show _ < 98) <;> omega⟩
/-- and of its arrivals. -/
def rSem (b : Bool) (h : Fin 6) (j : Fin 4) : DmaSem sig :=
  ⟨(if h.val < 3 then bif b then 38 else 14 else bif b then 86 else 62) + 4 * (h.val % 3) + j.val, by
    have := j.isLt; have : h.val % 3 < 3 := Nat.mod_lt _ (by decide)
    cases b <;> simp only [cond_true, cond_false] <;> split <;> (show _ < 98) <;> omega⟩

/-- What hop `h` sends: rows of the argument at first, of the result from then on; -/
abbrev srcM (b : Bool) (h : Fin 6) (j : Fin 4) (d : Dev nD) : Memref sig .tc .vmem S128x1024 .f32 :=
  match h with
  | 0 => blkAt xM (srcOff b 0 j d) (srcOff_inb b 0 j d)
  | 1 => blkAt oM (srcOff b 1 j d) (srcOff_inb b 1 j d)
  | 2 => blkAt oM (srcOff b 2 j d) (srcOff_inb b 2 j d)
  | 3 => blkAt oM (srcOff b 3 j d) (srcOff_inb b 3 j d)
  | 4 => blkAt oM (srcOff b 4 j d) (srcOff_inb b 4 j d)
  | 5 => blkAt oM (srcOff b 5 j d) (srcOff_inb b 5 j d)
/-- where it lands: a slot of the receive buffer in the reduce-scatter, the same rows of the result in the all-gather. -/
abbrev dstM (b : Bool) (h : Fin 6) (j : Fin 4) (d : Dev nD) : Memref sig .tc .vmem S128x1024 .f32 :=
  match h with
  | 0 => slotM b 0 j
  | 1 => slotM b 1 j
  | 2 => slotM b 2 j
  | 3 => blkAt oM (srcOff b 3 j d) (srcOff_inb b 3 j d)
  | 4 => blkAt oM (srcOff b 4 j d) (srcOff_inb b 4 j d)
  | 5 => blkAt oM (srcOff b 5 j d) (srcOff_inb b 5 j d)

theorem srcM_exact (b : Bool) (h : Fin 6) (j : Fin 4) (d : Dev nD) : (srcM b h j d).view.WordExact := by
  fin_cases h <;> exact View.wordExact_bits rfl
theorem dstM_exact (b : Bool) (h : Fin 6) (j : Fin 4) (d : Dev nD) : (dstM b h j d).view.WordExact := by
  fin_cases h <;> cases b <;> exact View.wordExact_bits rfl

/-- A program of memory operations of the body. -/
abbrev BProg (F : FTy → Type) [FloatOps F] := Prog (TpuEff nD τ sig (Elt F) Λ₀ .tc) PUnit

/-- Send sub-block `j` of hop `h`. -/
def send (b : Bool) (h : Fin 6) (j : Fin 4) (d : Dev nD) : BProg F :=
  Prog.lift (.enqueueDma (srcM b h j d) (.remote (Dev.tc (nbr b d)) (dstM b h j d) (.dma (sSem b h j))) (.dma (rSem b h j))
    (srcM_exact b h j d) (dstM_exact b h j d) ⟨⟨rfl, Or.inl rfl⟩, trivial⟩)

/-- Wait until hop `h`'s own transfer has left; -/
def waitS (b : Bool) (h : Fin 6) (j : Fin 4) (d : Dev nD) : BProg F :=
  Prog.lift (.waitDma2 (sSem b h j) (dstM b h j d) (srcM b h j d) (dstM_exact b h j d) (srcM_exact b h j d))
/-- wait until the neighbour's has arrived. -/
def waitR (b : Bool) (h : Fin 6) (j : Fin 4) (d : Dev nD) : BProg F :=
  Prog.lift (.waitDma2 (rSem b h j) (srcM b h j d) (dstM b h j d) (srcM_exact b h j d) (dstM_exact b h j d))

/-- The sum the body stores: its own rows plus the rows received. -/
def addRows (x : Vec F S128x1024 .f32) (r : Vec F S1x128x1024 .f32) : FVec F S128x1024 .f32 :=
  addf (shapeCast S128x1024 x shapeCasts_S128x1024_S128x1024) (shapeCast S128x1024 r shapeCasts_S1x128x1024_S128x1024)

/-- Add the device's own rows to slot `s` and leave the sum in the result. The body also reads the rows it is about
to overwrite. -/
def add (b : Bool) (s : Fin 3) (j : Fin 4) (d : Dev nD) : BProg F :=
  .op (.load xM (Rect.unit (s := S4096x1024) (addOff b s j d) S128x1024.size (addOff_inb b s j d)).toLoadRect (View.loadsAt_vmem h_S128x1024)) fun x =>
  .op (.load (rM b) (Rect.unit (s := S3x512x1024) ![s.val, 128 * j.val, 0] S1x128x1024.size (slot_inb s j)).toLoadRect (View.loadsAt_vmem h_S1x128x1024)) fun r =>
  .op (.load oM (Rect.unit (s := S4096x1024) (addOff b s j d) S128x1024.size (addOff_inb b s j d)).toLoadRect (View.loadsAt_vmem h_S128x1024)) fun _ =>
  .op (.store oM (Rect.unit (s := S4096x1024) (addOff b s j d) S128x1024.size (addOff_inb b s j d)) (addRows x r) Finset.univ (View.stores_vmem_bits_univ h_S128x1024 rfl) (.inl rfl)) .ret

/-- What the body does between two sends of one sub-block: wait for hop `h`, add if `h` is of the reduce-scatter, send
the next hop. -/
def step (b : Bool) (h : Fin 5) (j : Fin 4) (d : Dev nD) : BProg F :=
  waitS b h.castSucc j d >>= fun _ => waitR b h.castSucc j d >>= fun _ =>
    match h with
    | 0 => add b 0 j d >>= fun _ => send b 1 j d
    | 1 => add b 1 j d >>= fun _ => send b 2 j d
    | 2 => add b 2 j d >>= fun _ => send b 3 j d
    | 3 => send b 4 j d
    | 4 => send b 5 j d

/-- The last two waits of a sub-block. -/
def fin (b : Bool) (j : Fin 4) (d : Dev nD) : BProg F := waitS b 5 j d >>= fun _ => waitR b 5 j d

/-- The handshake: both neighbours are told, both are waited for. -/
def shake (d : Dev nD) : BProg F :=
  .op (.semSignal (Dev.tc (⟨k0_dev1 d, k0_dev1_lt d⟩ : Dev nD)) barrier0 (1#32).toInt) fun _ =>
  .op (.semSignal (Dev.tc (⟨k0_dev2 d, k0_dev2_lt d⟩ : Dev nD)) barrier0 (1#32).toInt) fun _ =>
  .op (.semWait barrier0 (2#32).toInt) .ret

/-- A program run for each entry of a list in turn. -/
def each {ι : Type} (f : ι → BProg F) : List ι → BProg F
  | [] => .ret ⟨⟩
  | i :: l => f i >>= fun _ => each f l

/-- The order in which a round goes through its lanes: sub-block by sub-block, right before left. -/
def lanes : List (Bool × Fin 4) :=
  [(false, 0), (true, 0), (false, 1), (true, 1), (false, 2), (true, 2), (false, 3), (true, 3)]

/-- The body in order. -/
def ringBody : BProg F :=
  .op .deviceId fun d =>
    shake d >>= fun _ =>
    each (fun l => send l.1 0 l.2 d) lanes >>= fun _ =>
    each (fun l => step l.1 0 l.2 d) lanes >>= fun _ =>
    each (fun l => step l.1 1 l.2 d) lanes >>= fun _ =>
    each (fun l => step l.1 2 l.2 d) lanes >>= fun _ =>
    each (fun l => step l.1 3 l.2 d) lanes >>= fun _ =>
    each (fun l => step l.1 4 l.2 d) lanes >>= fun _ =>
    each (fun l => fin l.1 l.2 d) lanes

/-- The printed body is the double loop. -/
theorem body_eq : bodyAt0 (F := F) t0_0 = ringBody := by
  chain_rfl

end Cert.KernelIdeal.Ring

end
-- ==== Proof.Sched.lean ====
module

public import proofs.«01_k».proof.Proof.Ops
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The protocol: who waits for what, and what each arrival hands over

A transfer of hop `h`, sub-block `j`, direction `b` pays two semaphores: the sender's departure semaphore and the
receiver's arrival semaphore, each once. The barrier semaphore of a device is signalled once by either neighbour. -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The neighbour a direction receives from. -/
def prv (b : Bool) (c : Dev nD) : Dev nD := nbr (!b) c

theorem prv_nbr : ∀ (b : Bool) (c : Dev nD), prv b (nbr b c) = c := by decide +kernel
theorem nbr_prv : ∀ (b : Bool) (c : Dev nD), nbr b (prv b c) = c := by decide +kernel
/-- Three steps back is one step on. -/
theorem prv3 : ∀ (b : Bool) (c : Dev nD), prv b (prv b (prv b c)) = nbr b c := by decide +kernel
/-- What a device sends at the next hop is the chunk that its predecessor sends at this one. -/
theorem chunk_prv : ∀ (b : Bool) (h : Fin 6) (c : Dev nD), chunk b h.val (prv b c) = chunk b (h.val + 1) c := by decide +kernel
theorem chunk_three : ∀ (b : Bool) (c : Dev nD), chunk b 0 (nbr b c) = chunk b 3 c := by decide +kernel

/-- The device across a signal: the first signal goes to the left, the second to the right. -/
theorem dev1_eq : ∀ c : Dev nD, (⟨k0_dev1 c, k0_dev1_lt c⟩ : Dev nD) = prv false c := by decide +kernel
theorem dev2_eq : ∀ c : Dev nD, (⟨k0_dev2 c, k0_dev2_lt c⟩ : Dev nD) = prv true c := by decide +kernel

/-- The ring as a permutation of the devices. -/
def ring (b : Bool) : Dev nD ≃ Dev nD := ⟨nbr b, prv b, prv_nbr b, nbr_prv b⟩

/-! ## The blocks -/

/-- Sub-block `j` of chunk `k` of direction `b`'s half, of the argument and of the result. -/
abbrev xB (b : Bool) (k j : Fin 4) : Memref sig .tc .vmem S128x1024 .f32 := blkAt xM ![row b k j, 0] (row_inb b k j)
abbrev oB (b : Bool) (k j : Fin 4) : Memref sig .tc .vmem S128x1024 .f32 := blkAt oM ![row b k j, 0] (row_inb b k j)

/-- What hop `h` sends from device `c`, by its chunk; -/
abbrev srcB (b : Bool) (h : Fin 6) (j : Fin 4) (c : Dev nD) : Memref sig .tc .vmem S128x1024 .f32 :=
  match h with
  | 0 => xB b (chunk b 0 c) j
  | 1 => oB b (chunk b 1 c) j
  | 2 => oB b (chunk b 2 c) j
  | 3 => oB b (chunk b 3 c) j
  | 4 => oB b (chunk b 4 c) j
  | 5 => oB b (chunk b 5 c) j
/-- and where it lands. -/
abbrev dstB (b : Bool) (h : Fin 6) (j : Fin 4) (c : Dev nD) : Memref sig .tc .vmem S128x1024 .f32 :=
  match h with
  | 0 => slotM b 0 j
  | 1 => slotM b 1 j
  | 2 => slotM b 2 j
  | 3 => oB b (chunk b 3 c) j
  | 4 => oB b (chunk b 4 c) j
  | 5 => oB b (chunk b 5 c) j

theorem blkAt_congr (M : Memref sig .tc .vmem S4096x1024 .f32) {o o' : Fin 2 → Nat} (h : o = o')
    (ho : ∀ a, o a + S128x1024.size a ≤ S4096x1024.size a) (ho' : ∀ a, o' a + S128x1024.size a ≤ S4096x1024.size a) :
    blkAt M o ho = blkAt M o' ho' := by subst h; rfl

theorem srcM_eq (b : Bool) (h : Fin 6) (j : Fin 4) (c : Dev nD) : srcM b h j c = srcB b h j c := by
  fin_cases h <;> exact blkAt_congr _ (srcOff_eq b _ j c) _ _

theorem dstM_eq (b : Bool) (h : Fin 6) (j : Fin 4) (c : Dev nD) : dstM b h j c = dstB b h j c := by
  fin_cases h <;> first | rfl | exact blkAt_congr _ (srcOff_eq b _ j c) _ _

/-! ## Contents -/

variable (m : (ℓ : Loc nD τ sig) → Buf (Elt F) ℓ)

/-- The argument of device `c`, as staged. -/
def xstg (c : Dev nD) : (cc0_stg0_0 : Ref sig .tc).ty.Contents (Elt F) :=
  (win0_0.blk (0 : Fin 1)).view.read (Elt F) (m ((c : Thread nD τ).loc main_arg0))

/-- One sub-block of it. -/
def xv (b : Bool) (k j : Fin 4) (c : Dev nD) : FVec F S128x1024 .f32 := (xB b k j).view.read (Elt F) (xstg m c)

/-- What device `c` sends at hop `n`: its own rows at first; then, twice, its own rows added to what it received; at
hop 3 the complete sum; from then on what it received. -/
def sent (b : Bool) (j : Fin 4) : ℕ → Dev nD → FVec F S128x1024 .f32
  | 0, c => xv m b (chunk b 0 c) j c
  | n + 1, c => if n < 3 then addf (xv m b (chunk b (n + 1) c) j c) (sent b j n (prv b c)) else sent b j n (prv b c)

/-- Device `c` holds the block `M` at the value `v`; -/
def holds (M : Memref sig .tc .vmem S128x1024 .f32) (c : Dev nD) (v : FVec F S128x1024 .f32) : sProp 𝕄 :=
  iprop(∃ f : Buf (Elt F) (M.view.loc (c : Thread nD τ)), ⌜M.view.read (Elt F) f = v⌝ ∗ (M.view.loc (c : Thread nD τ) ↦[M.view.set]{fullShare} f))
/-- at some value; -/
def some' (M : Memref sig .tc .vmem S128x1024 .f32) (c : Dev nD) : sProp 𝕄 :=
  iprop(∃ f : Buf (Elt F) (M.view.loc (c : Thread nD τ)), (M.view.loc (c : Thread nD τ) ↦[M.view.set]{fullShare} f))
/-- device `c` holds a sub-block of its argument. -/
def xAt (b : Bool) (k j : Fin 4) (c : Dev nD) : sProp 𝕄 :=
  (xB b k j).view.loc (c : Thread nD τ) ↦[(xB b k j).view.set]{fullShare} xstg m c

omit [FloatOps F] in
theorem holds_some (M : Memref sig .tc .vmem S128x1024 .f32) (c : Dev nD) (v : FVec F S128x1024 .f32) : (holds M c v : sProp 𝕄) ⊢ some' M c := by
  unfold holds some'
  iintro ⟨%f, -, H⟩; iexists f; iexact H

omit [FloatOps F] in
theorem holds_intro (M : Memref sig .tc .vmem S128x1024 .f32) (c : Dev nD) (v : FVec F S128x1024 .f32) (f : Buf (Elt F) (M.view.loc (c : Thread nD τ)))
    (h : M.view.read (Elt F) f = v) : (M.view.loc (c : Thread nD τ) ↦[M.view.set]{fullShare} f : sProp 𝕄) ⊢ holds M c v := by
  unfold holds
  iintro H; iexists f; isplitr; · ipureintro; exact h
  iexact H
omit [FloatOps F] in
theorem holds_elim (M : Memref sig .tc .vmem S128x1024 .f32) (c : Dev nD) (v : FVec F S128x1024 .f32) :
    (holds M c v : sProp 𝕄) ⊢ iprop(∃ f : Buf (Elt F) (M.view.loc (c : Thread nD τ)), ⌜M.view.read (Elt F) f = v⌝ ∗ (M.view.loc (c : Thread nD τ) ↦[M.view.set]{fullShare} f)) := .rfl
omit [FloatOps F] in
theorem some_elim (M : Memref sig .tc .vmem S128x1024 .f32) (c : Dev nD) :
    (some' M c : sProp 𝕄) ⊢ iprop(∃ f : Buf (Elt F) (M.view.loc (c : Thread nD τ)), (M.view.loc (c : Thread nD τ) ↦[M.view.set]{fullShare} f)) := .rfl
omit [FloatOps F] in
theorem some_intro (M : Memref sig .tc .vmem S128x1024 .f32) (c : Dev nD) (f : Buf (Elt F) (M.view.loc (c : Thread nD τ))) :
    (M.view.loc (c : Thread nD τ) ↦[M.view.set]{fullShare} f : sProp 𝕄) ⊢ some' M c := by
  unfold some'
  iintro H; iexists f; iexact H

omit [FloatOps F] in
instance holds_storable (M) (c : Dev nD) (v) : BI.Storable (upEmb : UEmb _ 𝕄) (holds (F := F) M c v) := by unfold holds; infer_instance
omit [FloatOps F] in
instance some_storable (M) (c : Dev nD) : BI.Storable (upEmb : UEmb _ 𝕄) (some' (F := F) M c) := by unfold some'; infer_instance
omit [FloatOps F] in
instance xAt_storable (b k j) (c : Dev nD) : BI.Storable (upEmb : UEmb _ 𝕄) (xAt (F := F) m b k j c) := by unfold xAt; infer_instance

/-! ## What is handed over -/

/-- The sender gets its source back when a transfer has left, at hop 0 and in the all-gather. -/
def spay (b : Bool) (h : Fin 6) (j : Fin 4) (c : Dev nD) : sProp 𝕄 :=
  match h with
  | 0 => xAt m b (chunk b 0 c) j c
  | 1 => iprop(emp)
  | 2 => iprop(emp)
  | 3 => holds (oB b (chunk b 3 c) j) c (sent m b j 3 c)
  | 4 => holds (oB b (chunk b 4 c) j) c (sent m b j 4 c)
  | 5 => holds (oB b (chunk b 5 c) j) c (sent m b j 5 c)

/-- Rows of the devices further back that sender `c` passes on: the receiver, or one after it, writes them in the
all-gather. -/
def fwd (b : Bool) (h : Fin 6) (j : Fin 4) (c : Dev nD) : sProp 𝕄 :=
  match h with
  | 2 => some' (oB b (chunk b 2 c) j) (prv b c)
  | 3 => iprop(some' (oB b (chunk b 3 c) j) (prv b c) ∗ some' (oB b (chunk b 3 c) j) (prv b (prv b c)))
  | 4 => some' (oB b (chunk b 4 c) j) (prv b (prv b c))
  | _ => iprop(emp)

/-- At hops 1 and 2 the sender's own source goes along too. -/
def lend (b : Bool) (h : Fin 6) (j : Fin 4) (c : Dev nD) : sProp 𝕄 :=
  match h with
  | 1 => some' (oB b (chunk b 1 c) j) c
  | 2 => some' (oB b (chunk b 2 c) j) c
  | _ => iprop(emp)

/-- An arrival on device `d` from device `c`. -/
def rpay (b : Bool) (h : Fin 6) (j : Fin 4) (c d : Dev nD) : sProp 𝕄 :=
  iprop((holds (dstB b h j c) d (sent m b j h.val c) ∗ fwd b h j c) ∗ lend b h j c)

/-- What a signal gives the neighbour that will send to device `c` in direction `b`: `c`'s receive buffer and the chunk of
its result that the neighbour's complete sum goes to. -/
def gift (b : Bool) (c : Dev nD) : sProp 𝕄 :=
  bigSep Finset.univ fun j : Fin 4 => iprop(some' (slotM b 0 j) c ∗ some' (slotM b 1 j) c ∗ some' (slotM b 2 j) c ∗ some' (oB b (chunk b 0 c) j) c)

omit [FloatOps F] in
instance fwd_storable (b h j) (c : Dev nD) : BI.Storable (upEmb : UEmb _ 𝕄) (fwd (F := F) b h j c) := by unfold fwd; split <;> infer_instance
omit [FloatOps F] in
instance lend_storable (b h j) (c : Dev nD) : BI.Storable (upEmb : UEmb _ 𝕄) (lend (F := F) b h j c) := by unfold lend; split <;> infer_instance
instance spay_storable (b h j) (c : Dev nD) : BI.Storable (upEmb : UEmb _ 𝕄) (spay (F := F) m b h j c) := by unfold spay; split <;> infer_instance
instance rpay_storable (b h j) (c d : Dev nD) : BI.Storable (upEmb : UEmb _ 𝕄) (rpay (F := F) m b h j c d) := by unfold rpay; infer_instance
omit [FloatOps F] in
instance gift_storable (b) (c : Dev nD) : BI.Storable (upEmb : UEmb _ 𝕄) (gift (F := F) b c) := by unfold gift; infer_instance

/-! ## The semaphores -/

/-- A sub-block of a direction; a hop of it; its departure (`false`) or arrival (`true`). -/
abbrev Lane : Type := Bool × Fin 4
abbrev Hop : Type := Fin 6 × Lane
abbrev Key : Type := Bool × Hop

/-- The semaphore of a departure or arrival, -/
def code (x : Key) : SemLoc sig := .dma (bif x.1 then rSem x.2.2.1 x.2.1 x.2.2.2 else sSem x.2.2.1 x.2.1 x.2.2.2)

/-- and back. -/
def dec : SemLoc sig → Option Key
  | .reg _ => none
  | .dma q =>
    if 2 ≤ q.val then
      some ((((q.val - 2) / 12) % 2 == 1),
        (⟨(3 * ((q.val - 2) / 48) + ((q.val - 2) % 12) / 4) % 6, Nat.mod_lt _ (by decide)⟩,
          ((((q.val - 2) / 24) % 2 == 1), ⟨(q.val - 2) % 4, Nat.mod_lt _ (by decide)⟩)))
    else none

theorem dec_code : ∀ x : Key, dec (code x) = some x := by decide +kernel

theorem code_injective : Function.Injective code := fun x y h => Option.some.inj ((dec_code x).symm.trans ((congrArg dec h).trans (dec_code y)))

theorem code_ne_bar (x : Key) : code x ≠ .reg barrier0 := fun h => by cases h

abbrev barCell (c : Dev nD) : GSem nD τ sig := ((c : Thread nD τ), .reg barrier0)
abbrev cell (x : Key) (c : Dev nD) : GSem nD τ sig := ((c : Thread nD τ), code x)
abbrev sCell (b : Bool) (h : Fin 6) (j : Fin 4) (c : Dev nD) : GSem nD τ sig := cell (false, h, b, j) c
abbrev rCell (b : Bool) (h : Fin 6) (j : Fin 4) (c : Dev nD) : GSem nD τ sig := cell (true, h, b, j) c

/-- The credit of one sub-block. -/
abbrev N : ℕ := (slotM false 0 0).view.dmaCredit
theorem N_pos : 0 < N := View.dmaCredit_pos _ (by decide)

theorem amount_dst (b : Bool) (h : Fin 6) (j : Fin 4) (c : Dev nD) (q : DmaSem sig) : (dstB b h j c).view.amount (.dma q) = N := by
  fin_cases h <;> cases b <;> rfl

/-- What a departure or arrival hands over on device `c`. -/
def pay (x : Key) (c : Dev nD) : sProp 𝕄 :=
  bif x.1 then rpay m x.2.2.1 x.2.1 x.2.2.2 (prv x.2.2.1 c) c else spay m x.2.2.1 x.2.1 x.2.2.2 c

instance pay_storable (x) (c : Dev nD) : BI.Storable (upEmb : UEmb _ 𝕄) (pay (F := F) m x c) := by
  unfold pay; cases x.1 <;> (simp only [cond_true, cond_false]; infer_instance)

/-- One round. A barrier cell has two duties of one unit: `b`, paid by the neighbour that device `c` sends to in direction
`b`. Each other cell has one duty, of a sub-block's credit. -/
def ringRd : Rounds.Schedule (GSem nD τ sig) Bool 𝕄 where
  duties g r := if r = 0 ∧ g.1.2 = .tc then (if g.2 = .reg barrier0 then Finset.univ else if (dec g.2).isSome then {false} else ∅) else ∅
  unitless _ := False
  amount g _ _ := if g.2 = .reg barrier0 then 1 else N
  payload g _ d :=
    if g.2 = .reg barrier0 then gift d (nbr d g.1.1)
    else match dec g.2 with
      | some x => pay m x g.1.1
      | none => iprop(emp)
  amount_pos g _ _ _ := by
    by_cases h : g.2 = .reg barrier0
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barrier0 then gift d (nbr d g.1.1) else match dec g.2 with
      | some x => pay m x g.1.1
      | none => iprop(emp))
  split
  · infer_instance
  · split <;> infer_instance

section Facts
variable (c : Dev nD) (x : Key)

theorem duties_bar : (ringRd (F := F) m).duties (barCell c) 0 = Finset.univ := by
  dsimp only [ringRd]; rw [if_pos ⟨rfl, rfl⟩]; exact if_pos rfl
theorem duties_cell : (ringRd (F := F) m).duties (cell x c) 0 = {false} := by
  dsimp only [ringRd]; rw [if_pos ⟨rfl, rfl⟩, if_neg (code_ne_bar x), dec_code]; rfl
theorem duties_later (g : GSem nD τ sig) : ∀ r, 1 ≤ r → (ringRd (F := F) m).duties g r = ∅ :=
  fun r hr => by dsimp only [ringRd]; exact if_neg fun h => by omega
theorem amount_bar (d : Bool) : (ringRd (F := F) m).amount (barCell c) 0 d = 1 := by dsimp only [ringRd]; exact if_pos rfl
theorem amount_cell (d : Bool) : (ringRd (F := F) m).amount (cell x c) 0 d = N := by dsimp only [ringRd]; exact if_neg (code_ne_bar x)
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_cell : (ringRd (F := F) m).expect (cell x c) 0 = N := by
  unfold Schedule.expect Schedule.amountOf; rw [duties_cell, Finset.sum_singleton, amount_cell]
theorem payload_bar (d : Bool) : (ringRd (F := F) m).payload (barCell c) 0 d = gift d (nbr d c) := by dsimp only [ringRd]; exact if_pos rfl
theorem payload_cell (d : Bool) : (ringRd (F := F) m).payload (cell x c) 0 d = pay m x c := by
  dsimp only [ringRd]; rw [if_neg (code_ne_bar x), dec_code]
/-- The whole of a round: of the barrier cell both neighbours' gifts, of another cell its payload. -/
theorem rest_bar : bigSep ((ringRd (F := F) m).duties (barCell c) 0 \ ∅) (fun d => (ringRd (F := F) m).payload (barCell c) 0 d)
    = iprop(gift false (nbr false c) ∗ gift true (nbr true c)) := by
  rw [Finset.sdiff_empty, duties_bar, bigSep_univ_eq_bigSepL [false, true] (by decide) (by decide), bigSepL_cons_cons, bigSepL_singleton,
    payload_bar, payload_bar]
  rfl
theorem rest_cell : bigSep ((ringRd (F := F) m).duties (cell x c) 0 \ ∅) (fun d => (ringRd (F := F) m).payload (cell x c) 0 d) = pay m x c := by
  rw [Finset.sdiff_empty, duties_cell, bigSep_singleton, payload_cell]

end Facts

end Cert.KernelIdeal.Ring

end
-- ==== Proof.Owed.lean ====
module

public import proofs.«01_k».proof.Proof.Sched
public import Mathlib.Tactic.Abel

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # What a device still owes, and why its waits end

A device owes its neighbours the arrivals it has not sent yet. Waiting is sound because everything owed lies on a
higher level than what is waited for: departures at level 0, the barrier at 1, the arrivals of hop `h` at `h + 2`. -/

/-- The arrival that device `c` pays at one hop of a lane. -/
def tl (c : Dev nD) (h : Fin 6) (l : Lane) : CellTallies nD τ sig Unit := tallyAt (rCell l.1 h l.2 (nbr l.1 c)) () N

/-- Every arrival of hop `n` and later; -/
def owedFrom (c : Dev nD) (n : ℕ) : CellTallies nD τ sig Unit := ∑ x : Hop, if n ≤ x.1.val then tl c x.1 x.2 else 0
/-- those of the lanes `ls` at hop `h`, and of every later hop. -/
def owed (c : Dev nD) (h : Fin 6) (ls : List Lane) : CellTallies nD τ sig Unit := (ls.map (tl c h)).sum + owedFrom c (h.val + 1)

/-- The barrier signals. -/
def owedBar (c : Dev nD) : CellTallies nD τ sig Unit := tallyAt (barCell (prv true c)) () 1
/-- Everything: the first signal is paid first, then the second, then the arrivals. -/
def owedAll (c : Dev nD) : CellTallies nD τ sig Unit := (owedFrom c 0 + owedBar c) + tallyAt (barCell (prv false c)) () 1

theorem owed_cons (c : Dev nD) (h : Fin 6) (l : Lane) (ls : List Lane) : owed c h (l :: ls) = owed c h ls + tl c h l := by
  unfold owed; rw [List.map_cons, List.sum_cons]; abel

theorem lanes_sum (f : Lane → CellTallies nD τ sig Unit) : (lanes.map f).sum = ∑ l : Lane, f l := by
  rw [Fintype.sum_prod_type, Fintype.sum_bool, Fin.sum_univ_four, Fin.sum_univ_four]
  simp only [lanes, List.map_cons, List.map_nil, List.sum_cons, List.sum_nil]; abel

theorem owed_lanes (c : Dev nD) (h : Fin 6) : owed c h lanes = owedFrom c h.val := by
  unfold owed owedFrom
  have p : ∀ f : Hop → CellTallies nD τ sig Unit, (∑ x, f x) = ∑ h' : Fin 6, ∑ l : Lane, f (h', l) := fun f => Fintype.sum_prod_type f
  rw [lanes_sum, p, p]
  have e : ∀ h' : Fin 6, (∑ l : Lane, if h.val ≤ h'.val then tl c h' l else 0)
      = (if h = h' then ∑ l : Lane, tl c h' l else 0) + ∑ l : Lane, if h.val + 1 ≤ h'.val then tl c h' l else 0 := fun h' => by
    by_cases e : h = h'
    · subst e; rw [if_pos rfl]
      simp only [le_refl, if_true, show ¬ (h.val + 1 ≤ h.val) by omega, if_false, Finset.sum_const_zero, add_zero]
    · have : (h.val ≤ h'.val) ↔ (h.val + 1 ≤ h'.val) := ⟨fun h1 => by have : h.val ≠ h'.val := fun h2 => e (Fin.ext h2); omega, fun h1 => by omega⟩
      rw [if_neg e, zero_add]; simp only [this]
  rw [Finset.sum_congr rfl fun h' _ => e h', Finset.sum_add_distrib, Finset.sum_ite_eq, if_pos (Finset.mem_univ _)]

theorem owed_nil (c : Dev nD) (h : Fin 5) : owed c h.castSucc [] = owed c h.succ lanes := by
  rw [owed_lanes]; unfold owed; rw [List.map_nil, List.sum_nil, zero_add]; rfl

theorem owedFrom_six (c : Dev nD) : owedFrom c 6 = 0 := by
  unfold owedFrom; exact Finset.sum_eq_zero fun x _ => if_neg (by have := x.1.isLt; omega)

theorem owed_last (c : Dev nD) : owed c 5 [] = 0 := by
  unfold owed; rw [List.map_nil, List.sum_nil, zero_add]; exact owedFrom_six c

/-! ## Which cells are owed -/

theorem tl_pos {c : Dev nD} {h : Fin 6} {l : Lane} {g : GSem nD τ sig} {u : Unit} (hp : 0 < tl c h l g u) : g = rCell l.1 h l.2 (nbr l.1 c) := by
  unfold tl at hp; rw [tallyAt_apply] at hp
  by_contra hn; rw [if_neg fun h' => hn h'.1] at hp; exact Nat.lt_irrefl 0 hp

theorem owedFrom_pos {c : Dev nD} {n : ℕ} {g : GSem nD τ sig} {u : Unit} (hp : 0 < owedFrom c n g u) :
    ∃ (h : Fin 6) (l : Lane), n ≤ h.val ∧ g = rCell l.1 h l.2 (nbr l.1 c) := by
  unfold owedFrom at hp
  rw [Finset.sum_apply, Finsupp.finset_sum_apply] at hp
  obtain ⟨x, -, hx⟩ := Finset.exists_ne_zero_of_sum_ne_zero (Nat.pos_iff_ne_zero.mp hp)
  by_cases h : n ≤ x.1.val
  · rw [if_pos h] at hx; exact ⟨x.1, x.2, h, tl_pos (Nat.pos_iff_ne_zero.mpr hx)⟩
  · rw [if_neg h] at hx; exact absurd rfl hx

theorem owed_pos {c : Dev nD} {h : Fin 6} {ls : List Lane} {g : GSem nD τ sig} {u : Unit} (hp : 0 < owed c h ls g u) :
    ∃ (h' : Fin 6) (l : Lane), h.val ≤ h'.val ∧ g = rCell l.1 h' l.2 (nbr l.1 c) := by
  induction ls with
  | nil =>
    unfold owed at hp; rw [List.map_nil, List.sum_nil, zero_add] at hp
    obtain ⟨h', l, h1, h2⟩ := owedFrom_pos hp
    exact ⟨h', l, by omega, h2⟩
  | cons l ls ih =>
    rw [owed_cons, Pi.add_apply, Finsupp.add_apply] at hp
    by_cases h0 : 0 < owed c h ls g u
    · exact ih h0
    · exact ⟨h, l, le_refl _, tl_pos (u := u) (by omega)⟩

theorem owedAll_pos {c : Dev nD} {g : GSem nD τ sig} {u : Unit} (hp : 0 < owedAll c g u) :
    (∃ (h : Fin 6) (l : Lane), g = rCell l.1 h l.2 (nbr l.1 c)) ∨ ∃ d, g = barCell d := by
  unfold owedAll owedBar at hp
  rw [Pi.add_apply, Finsupp.add_apply, Pi.add_apply, Finsupp.add_apply, tallyAt_apply, tallyAt_apply] at hp
  by_cases h0 : 0 < owedFrom c 0 g u
  · obtain ⟨h, l, -, e⟩ := owedFrom_pos h0; exact .inl ⟨h, l, e⟩
  by_cases h1 : g = barCell (prv true c)
  · exact .inr ⟨_, h1⟩
  by_cases h2 : g = barCell (prv false c)
  · exact .inr ⟨_, h2⟩
  rw [if_neg fun h => h1 h.1, if_neg fun h => h2 h.1] at hp; omega

/-! ## The levels -/

def L (g : GSem nD τ sig) : Finset Unit := if g.1.2 = .tc then {()} else ∅
def lv (g : GSem nD τ sig) (_ : Unit) : ℕ :=
  if g.2 = .reg barrier0 then 1 else match dec g.2 with
    | some (true, h, _) => h.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_cell (x : Key) (c : Dev nD) : lv (cell x c) () = bif x.1 then x.2.1.val + 2 else 0 := by
  unfold lv; rw [if_neg (code_ne_bar x), dec_code]
  rcases x with ⟨_ | _, h, l⟩ <;> rfl

omit [FloatOps F] in
/-- A device may wait on a cell of level `k` when every cell it owes is above `k`. -/
theorem mayWait (c : Dev nD) (sm : SemLoc sig) (O : CellTallies nD τ sig Unit) (k : ℕ) (hk : lv ((c : Thread nD τ), sm) () ≤ k)
    (hO : ∀ (g : GSem nD τ sig) (u : Unit), 0 < O g u → g.1.2 = .tc ∧ k < lv g ()) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

omit [FloatOps F] in
/-- At the staging waits, before and after the body. -/
theorem mayWait_stage (c : Dev nD) (q : DmaSem sig) (hq : dec (.dma q) = none) (O : CellTallies nD τ sig Unit) (hO : O = owedAll c ∨ O = 0) :
    (levAts L lv : sProp 𝕄) ⊢ MayWait (c : Thread nD τ) (.dma q) () O :=
  mayWait c _ O 0 (by unfold lv; rw [if_neg (fun h => by cases h), hq]) fun g u hg => by
    rcases hO with rfl | rfl
    · rcases owedAll_pos hg with ⟨h, l, rfl⟩ | ⟨d, rfl⟩
      · exact ⟨rfl, by rw [lv_cell]; exact Nat.succ_pos _⟩
      · exact ⟨rfl, by rw [lv_bar]; decide⟩
    · exact absurd hg (Nat.lt_irrefl 0)

omit [FloatOps F] in
/-- At the barrier wait every arrival is still owed. -/
theorem mayWait_bar (c : Dev nD) : (levAts L lv : sProp 𝕄) ⊢ MayWait (c : Thread nD τ) (.reg barrier0) () (owedFrom c 0) :=
  mayWait c _ _ 1 (le_of_eq (lv_bar c)) fun g u hg => by
    obtain ⟨h, l, -, rfl⟩ := owedFrom_pos hg
    exact ⟨rfl, by rw [lv_cell]; exact Nat.succ_lt_succ (Nat.succ_pos _)⟩

omit [FloatOps F] in
/-- At the two waits of hop `h`, what is owed is of later hops. -/
theorem mayWait_hop (c : Dev nD) (r : Bool) (h : Fin 6) (l : Lane) (O : CellTallies nD τ sig Unit)
    (hO : ∀ (g : GSem nD τ sig) (u : Unit), 0 < O g u → ∃ (h' : Fin 6) (l : Lane), h.val < h'.val ∧ g = rCell l.1 h' l.2 (nbr l.1 c)) :
    (levAts L lv : sProp 𝕄) ⊢ MayWait (c : Thread nD τ) (code (r, h, l)) () O :=
  mayWait c _ O (h.val + 2) (by rw [lv_cell]; cases r <;> simp only [cond_true, cond_false] <;> omega) fun g u hg => by
    obtain ⟨h', l', h1, rfl⟩ := hO g u hg
    exact ⟨rfl, by rw [lv_cell]; simp only [cond_true]; omega⟩

end Cert.KernelIdeal.Ring

end
-- ==== Proof.Rules.lean ====
module

public import proofs.«01_k».proof.Proof.Owed

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # One wait, one transfer, one addition

The rules by which the body's operations run under the protocol. -/

abbrev 𝒱₀ : Variants := Variants.none

/-- The program `p` runs to its end on device `c` and leaves `Q`. -/
abbrev WP (c : Dev nD) (p : BProg F) (Q : PUnit → sProp 𝕄) : sProp 𝕄 :=
  wp frame (wpE (defs₀ (F := F)) 𝒱₀ (c : Thread nD τ) none) Set.univ p Q

variable (m : (ℓ : Loc nD τ sig) → Buf (Elt F) ℓ)

/-- A device's cells: its barrier cell, its departures and arrivals. -/
abbrev kcell (ck : Dev nD × Option Key) : GSem nD τ sig := match ck.2 with
  | none => barCell ck.1
  | some x => cell x ck.1

/-- What every device knows: the invariant of each cell, and that each cell's round has begun. -/
def records (K : Dev nD × Option Key → ℕ) : sProp 𝕄 :=
  iprop((bigSep Finset.univ fun ck : Dev nD × Option Key => cellInv ER (ringRd m) (K ck) (kcell ck))
    ∗ bigSep Finset.univ fun ck : Dev nD × Option Key => reached ER (kcell ck) 0)

instance records_persistent (K : Dev nD × Option Key → ℕ) : BI.Persistent (records m K) := by unfold records; infer_instance

theorem records_inv (K : Dev nD × Option Key → ℕ) (ck : Dev nD × Option Key) :
    records m K ⊢ cellInv ER (ringRd m) (K ck) (kcell ck) :=
  sep_elim_left.trans (bigSep_elim (Finset.mem_univ ck))
theorem records_reached (K : Dev nD × Option Key → ℕ) (ck : Dev nD × Option Key) : records m K ⊢ reached ER (kcell ck) 0 :=
  sep_elim_right.trans (bigSep_elim (Finset.mem_univ ck))

variable (K : Dev nD × Option Key → ℕ)

/-! ## A wait -/

/-- The semaphore of a key. -/
abbrev semOf (x : Key) : DmaSem sig := bif x.1 then rSem x.2.2.1 x.2.1 x.2.2.2 else sSem x.2.2.1 x.2.1 x.2.2.2

/-- A wait for the one round of a cell gives its payload and the semaphore back at zero. -/
theorem wp_wait_cell (c : Dev nD) (x : Key) (A B : Memref sig .tc .vmem S128x1024 .f32) (hA : A.view.WordExact) (hB : B.view.WordExact)
    (hN : B.view.dmaCredit = N) (O : CellTallies nD τ sig Unit) (W : Waits sig Unit)
    (hmw : (levAts L lv : sProp 𝕄) ⊢ MayWait (c : Thread nD τ) (code x) () O) (k : PUnit → BProg F) (Q : PUnit → sProp 𝕄) :
    iprop(records m K ∗ levAts L lv ∗ cred (tallyAt (cell x c) () N) ∗ atPos ER (cell x c) 0 ∅ 0 ∗ owes (c : Thread nD τ) O W)
      ⊢ iprop(((semVal (cell x c) 0 ∗ pay m x c ∗ owes (c : Thread nD τ) O (insert (code x, ()) W)) -∗ WP c (k ⟨⟩) Q)
        -∗ WP c (.op (.waitDma2 (semOf x) A B hA hB) k) Q) := by
  iintro ⟨#Hr, #Hl, Hc, Ha, Ho⟩ Hk
  ihave #Hi := (records_inv m K (c, some x)) $$ Hr
  iapply (Rounds.wp_wait_rest_token 𝒱₀ ER (ringRd m) (c : Thread nD τ) none (sm := code x) (k' := N) (κ := K (c, some x))
      (fun K' => (wpE_waitDma2_eq 𝒱₀ (c : Thread nD τ) none Set.univ K').trans (by rw [hN]; rfl)) (Set.mem_univ _) () (O := O) (W := W) (R := 0) (m := 0) (T := ∅)
      (by rw [Nat.zero_add, expect_cell])) $$ [Hc Ho Ha]
  · isplitr; · iexact Hi
    isplitl [Hc]; · iexact Hc
    isplitl [Ho]; · iexact Ho
    isplitr; · iapply hmw; iexact Hl
    iexact Ha
  iintro ⟨Ho, Ha, -, Hp⟩
  ihave Hp := (Entails.of_eq (rest_cell m c x)) $$ Hp
  imod (Rounds.cell_close ER (ringRd m) (Set.mem_univ (K (c, some x))) (fun h => h) (R := 0 + 1) (duties_later m (cell x c))) $$ [Ha] with Hz
  · isplitr; · iexact Hi
    iexact Ha
  iapply Hk
  isplitl [Hz]; · iexact Hz
  isplitl [Hp]; · iexact Hp
  iexact Ho

/-- A lane's hop before it is sent on device `c`: the tokens of both payments, its positions at both its cells, and the
credit of what will arrive. -/
def tick (h : Fin 6) (c : Dev nD) (l : Lane) : sProp 𝕄 :=
  iprop(dutyTok ER (sCell l.1 h l.2 c) 0 false ∗ dutyTok ER (rCell l.1 h l.2 (nbr l.1 c)) 0 false
    ∗ atPos ER (sCell l.1 h l.2 c) 0 ∅ 0 ∗ atPos ER (rCell l.1 h l.2 c) 0 ∅ 0 ∗ cred (tallyAt (rCell l.1 h l.2 c) () N))
/-- Once it is sent; -/
def flight (h : Fin 6) (c : Dev nD) (l : Lane) : sProp 𝕄 :=
  iprop(cred (tallyAt (sCell l.1 h l.2 c) () N) ∗ atPos ER (sCell l.1 h l.2 c) 0 ∅ 0
    ∗ cred (tallyAt (rCell l.1 h l.2 c) () N) ∗ atPos ER (rCell l.1 h l.2 c) 0 ∅ 0)
/-- once both waits are over. -/
def landed (h : Fin 6) (c : Dev nD) (l : Lane) : sProp 𝕄 :=
  iprop(semVal (sCell l.1 h l.2 c) 0 ∗ semVal (rCell l.1 h l.2 c) 0)

/-- What device `c` owes, with some record of its waits. -/
def owesW (c : Dev nD) (O : CellTallies nD τ sig Unit) : sProp 𝕄 := iprop(∃ W : Waits sig Unit, owes (c : Thread nD τ) O W)

theorem credit_dst (b : Bool) (h : Fin 6) (j : Fin 4) (c : Dev nD) : (dstM b h j c).view.dmaCredit = N := by
  fin_cases h <;> cases b <;> rfl
theorem credit_src (b : Bool) (h : Fin 6) (j : Fin 4) (c : Dev nD) : (srcM b h j c).view.dmaCredit = N := by
  fin_cases h <;> cases b <;> rfl

/-- The two waits of a hop, while everything still owed is of later hops. -/
theorem wp_waits (h : Fin 6) (c : Dev nD) (l : Lane) (O : CellTallies nD τ sig Unit)
    (hO : ∀ (g : GSem nD τ sig) (u : Unit), 0 < O g u → ∃ (h' : Fin 6) (l : Lane), h.val < h'.val ∧ g = rCell l.1 h' l.2 (nbr l.1 c)) (k : PUnit → BProg F) (Q : PUnit → sProp 𝕄) :
    iprop(records m K ∗ levAts L lv ∗ flight h c l ∗ owesW c O)
      ⊢ iprop(((landed h c l ∗ spay m l.1 h l.2 c ∗ rpay m l.1 h l.2 (prv l.1 c) c ∗ owesW c O) -∗ WP c (k ⟨⟩) Q)
        -∗ WP c (waitS l.1 h l.2 c >>= fun _ => waitR l.1 h l.2 c >>= k) Q) := by
  unfold flight landed owesW
  iintro ⟨#Hr, #Hl, ⟨Hc1, Ha1, Hc2, Ha2⟩, %W, Ho⟩ Hk
  iapply (wp_wait_cell m K c (false, h, l.1, l.2) (dstM l.1 h l.2 c) (srcM l.1 h l.2 c) (dstM_exact l.1 h l.2 c) (srcM_exact l.1 h l.2 c)
    (credit_src l.1 h l.2 c) O W (mayWait_hop c false h l O hO) (fun _ => waitR l.1 h l.2 c >>= k) Q) $$ [Hc1 Ha1 Ho]
  · isplitr; · iexact Hr
    isplitr; · iexact Hl
    isplitl [Hc1]; · iexact Hc1
    isplitl [Ha1]; · iexact Ha1
    iexact Ho
  iintro ⟨Hz1, Hp1, Ho⟩
  iapply (wp_wait_cell m K c (true, h, l.1, l.2) (srcM l.1 h l.2 c) (dstM l.1 h l.2 c) (srcM_exact l.1 h l.2 c) (dstM_exact l.1 h l.2 c)
    (credit_dst l.1 h l.2 c) O _ (mayWait_hop c true h l O hO) k Q) $$ [Hc2 Ha2 Ho]
  · isplitr; · iexact Hr
    isplitr; · iexact Hl
    isplitl [Hc2]; · iexact Hc2
    isplitl [Ha2]; · iexact Ha2
    iexact Ho
  iintro ⟨Hz2, Hp2, Ho⟩
  iapply Hk
  isplitl [Hz1 Hz2]
  · isplitl [Hz1]; · iexact Hz1
    iexact Hz2
  isplitl [Hp1]; · iapply (show pay m (false, h, l.1, l.2) c ⊢ spay m l.1 h l.2 c from .rfl); iexact Hp1
  isplitl [Hp2]; · iapply (show pay m (true, h, l.1, l.2) c ⊢ rpay m l.1 h l.2 (prv l.1 c) c from .rfl); iexact Hp2
  iexists _; iexact Ho

/-! ## A transfer -/

/-- A transfer between given blocks. -/
def xfer (b : Bool) (h : Fin 6) (j : Fin 4) (d : Dev nD) (A B : Memref sig .tc .vmem S128x1024 .f32) (hA : A.view.WordExact) (hB : B.view.WordExact) : BProg F :=
  Prog.lift (.enqueueDma A (.remote (Dev.tc (nbr b d)) B (.dma (sSem b h j))) (.dma (rSem b h j)) hA hB ⟨⟨rfl, Or.inl rfl⟩, trivial⟩)

theorem xfer_congr (b : Bool) (h : Fin 6) (j : Fin 4) (d : Dev nD) {A A' B B' : Memref sig .tc .vmem S128x1024 .f32} (e : A = A') (e' : B = B')
    (hA : A.view.WordExact) (hB : B.view.WordExact) (hA' : A'.view.WordExact) (hB' : B'.view.WordExact) :
    (xfer b h j d A B hA hB : BProg F) = xfer b h j d A' B' hA' hB' := by subst e e'; rfl

theorem send_eq (b : Bool) (h : Fin 6) (j : Fin 4) (d : Dev nD) :
    (send b h j d : BProg F) = xfer b h j d (srcB b h j d) (dstB b h j d) (srcM_eq b h j d ▸ srcM_exact b h j d) (dstM_eq b h j d ▸ dstM_exact b h j d) :=
  xfer_congr b h j d (srcM_eq b h j d) (dstM_eq b h j d) _ _ _ _

/-- What a hop sends. -/
def srcRes (b : Bool) (h : Fin 6) (j : Fin 4) (c : Dev nD) : sProp 𝕄 :=
  match h with
  | 0 => xAt m b (chunk b 0 c) j c
  | 1 => holds (oB b (chunk b 1 c) j) c (sent m b j 1 c)
  | 2 => holds (oB b (chunk b 2 c) j) c (sent m b j 2 c)
  | 3 => holds (oB b (chunk b 3 c) j) c (sent m b j 3 c)
  | 4 => holds (oB b (chunk b 4 c) j) c (sent m b j 4 c)
  | 5 => holds (oB b (chunk b 5 c) j) c (sent m b j 5 c)

/-- The rows written, and what goes along, are the arrival's hand-over. -/
theorem arrive (b : Bool) (h : Fin 6) (j : Fin 4) (c : Dev nD) (fd : Buf (Elt F) ((dstB b h j c).view.loc (nbr b c : Thread nD τ)))
    (v : FVec F S128x1024 .f32) (hv : v = sent m b j h.val c) :
    iprop((((dstB b h j c).view.loc (nbr b c : Thread nD τ) ↦[(dstB b h j c).view.set]{fullShare} ((dstB b h j c).view.write (Elt F) fd v Finset.univ))
        ∗ fwd b h j c) ∗ lend b h j c) ⊢ pay m (true, h, b, j) (nbr b c) := by
  show _ ⊢ rpay m b h j (prv b (nbr b c)) (nbr b c)
  rw [prv_nbr]; unfold rpay
  exact sep_mono_left (sep_mono_left (holds_intro (dstB b h j c) (nbr b c) _ _ (by rw [View.read_write_univ]; exact hv)))

/-- Send a hop whose source comes back at the departure. -/
theorem wp_send_keep (b : Bool) (h : Fin 6) (j : Fin 4) (c : Dev nD) (fs : Buf (Elt F) ((srcB b h j c).view.loc (c : Thread nD τ)))
    (hv : (srcB b h j c).view.read (Elt F) fs = sent m b j h.val c)
    (hs : ((srcB b h j c).view.loc (c : Thread nD τ) ↦[(srcB b h j c).view.set]{fullShare} fs : sProp 𝕄) ⊢ spay m b h j c)
    (hl : (emp : sProp 𝕄) ⊢ lend b h j c)
    (O : CellTallies nD τ sig Unit) (k : PUnit → BProg F) (Q : PUnit → sProp 𝕄) :
    iprop(records m K ∗ tick h c (b, j) ∗ ((srcB b h j c).view.loc (c : Thread nD τ) ↦[(srcB b h j c).view.set]{fullShare} fs)
        ∗ some' (dstB b h j c) (nbr b c) ∗ fwd b h j c ∗ owesW c (O + tl c h (b, j)))
      ⊢ iprop(((flight h c (b, j) ∗ owesW c O) -∗ WP c (k ⟨⟩) Q) -∗ WP c (send b h j c >>= k) Q) := by
  rw [send_eq]; unfold tick flight some' owesW xfer
  iintro ⟨#Hr, ⟨Ht1, Ht2, Ha1, Ha2, Hc⟩, Hs, ⟨%fd, Hd⟩, Hf, %W, Ho⟩ Hk
  ihave #Hi1 := (records_inv m K (c, some (false, h, b, j))) $$ Hr
  ihave #Hi2 := (records_inv m K (nbr b c, some (true, h, b, j))) $$ Hr
  ihave #Hr1 := (records_reached m K (c, some (false, h, b, j))) $$ Hr
  ihave #Hr2 := (records_reached m K (nbr b c, some (true, h, b, j))) $$ Hr
  iapply (Rounds.wp_send_pointsTo_with 𝒱₀ ER (ringRd m) (c : Thread nD τ) none
      (κ₁ := K (c, some (false, h, b, j))) (κ₂ := K (nbr b c, some (true, h, b, j))) (r₁ := 0) (r₂ := 0) (d₁ := false) (d₂ := false) (fs := fs) (fd := fd)
      (by have e := duties_cell m c (false, h, b, j); exact e ▸ Finset.mem_singleton_self false)
      (by have e := duties_cell m (nbr b c) (true, h, b, j); exact e ▸ Finset.mem_singleton_self false)
      () () N (amount_dst b h j c (rSem b h j)) (amount_cell m c (false, h, b, j) false) (amount_cell m (nbr b c) (true, h, b, j) false)
      O rfl (W := W) (hs.trans <| Entails.of_eq (payload_cell m c (false, h, b, j) false).symm)
      ((((sep_emp (PROP := sProp 𝕄)).2.trans (sep_mono_right hl)).trans (arrive m b h j c fd _ hv)).trans <| Entails.of_eq (payload_cell m (nbr b c) (true, h, b, j) false).symm) ) $$ [Ht1 Ht2 Hs Hd Hf Ho]
  · isplitr; · iexact Hi1
    isplitr; · iexact Hi2
    isplitl [Hs]; · iexact Hs
    isplitl [Hd Hf]
    · isplitl [Hd]; · iexact Hd
      iexact Hf
    isplitl [Ho]; · iexact Ho
    isplitl [Ht1]; · iexact Ht1
    isplitr; · iexact Hr1
    isplitl [Ht2]; · iexact Ht2
    iexact Hr2
  iintro ⟨Hcs, Ho⟩
  iapply Hk
  isplitl [Hcs Ha1 Ha2 Hc]
  · isplitl [Hcs]; · iexact Hcs
    isplitl [Ha1]; · iexact Ha1
    isplitl [Hc]; · iexact Hc
    iexact Ha2
  iexists _; iexact Ho

/-- Send a hop whose source goes along with the arrival. -/
theorem wp_send_lend (b : Bool) (h : Fin 6) (j : Fin 4) (c : Dev nD) (fs : Buf (Elt F) ((srcB b h j c).view.loc (c : Thread nD τ)))
    (hv : (srcB b h j c).view.read (Elt F) fs = sent m b j h.val c)
    (hs : (emp : sProp 𝕄) ⊢ spay m b h j c)
    (hl : ((srcB b h j c).view.loc (c : Thread nD τ) ↦[(srcB b h j c).view.set]{fullShare} fs : sProp 𝕄) ⊢ lend b h j c)
    (O : CellTallies nD τ sig Unit) (k : PUnit → BProg F) (Q : PUnit → sProp 𝕄) :
    iprop(records m K ∗ tick h c (b, j) ∗ ((srcB b h j c).view.loc (c : Thread nD τ) ↦[(srcB b h j c).view.set]{fullShare} fs)
        ∗ some' (dstB b h j c) (nbr b c) ∗ fwd b h j c ∗ owesW c (O + tl c h (b, j)))
      ⊢ iprop(((flight h c (b, j) ∗ owesW c O) -∗ WP c (k ⟨⟩) Q) -∗ WP c (send b h j c >>= k) Q) := by
  rw [send_eq]; unfold tick flight some' owesW xfer
  iintro ⟨#Hr, ⟨Ht1, Ht2, Ha1, Ha2, Hc⟩, Hs, ⟨%fd, Hd⟩, Hf, %W, Ho⟩ Hk
  ihave #Hi1 := (records_inv m K (c, some (false, h, b, j))) $$ Hr
  ihave #Hi2 := (records_inv m K (nbr b c, some (true, h, b, j))) $$ Hr
  ihave #Hr1 := (records_reached m K (c, some (false, h, b, j))) $$ Hr
  ihave #Hr2 := (records_reached m K (nbr b c, some (true, h, b, j))) $$ Hr
  iapply (Rounds.wp_send_landing_pointsTo_with 𝒱₀ ER (ringRd m) (c : Thread nD τ) none
      (κ₁ := K (c, some (false, h, b, j))) (κ₂ := K (nbr b c, some (true, h, b, j))) (r₁ := 0) (r₂ := 0) (d₁ := false) (d₂ := false) (fs := fs) (fd := fd)
      (by have e := duties_cell m c (false, h, b, j); exact e ▸ Finset.mem_singleton_self false)
      (by have e := duties_cell m (nbr b c) (true, h, b, j); exact e ▸ Finset.mem_singleton_self false)
      () () N (amount_dst b h j c (rSem b h j)) (amount_cell m c (false, h, b, j) false) (amount_cell m (nbr b c) (true, h, b, j) false)
      O rfl (W := W) (hs.trans <| Entails.of_eq (payload_cell m c (false, h, b, j) false).symm)
      (((sep_mono_right hl).trans (arrive m b h j c fd _ hv)).trans <| Entails.of_eq (payload_cell m (nbr b c) (true, h, b, j) false).symm) ) $$ [Ht1 Ht2 Hs Hd Hf Ho]
  · isplitr; · iexact Hi1
    isplitr; · iexact Hi2
    isplitl [Hs]; · iexact Hs
    isplitl [Hd Hf]
    · isplitl [Hd]; · iexact Hd
      iexact Hf
    isplitl [Ho]; · iexact Ho
    isplitl [Ht1]; · iexact Ht1
    isplitr; · iexact Hr1
    isplitl [Ht2]; · iexact Ht2
    iexact Hr2
  iintro ⟨Hcs, Ho⟩
  iapply Hk
  isplitl [Hcs Ha1 Ha2 Hc]
  · isplitl [Hcs]; · iexact Hcs
    isplitl [Ha1]; · iexact Ha1
    isplitl [Hc]; · iexact Hc
    iexact Ha2
  iexists _; iexact Ho

/-- The first form, from a source that is held at its value; -/
theorem wp_send_back (b : Bool) (h : Fin 6) (j : Fin 4) (c : Dev nD) (hs : holds (srcB b h j c) c (sent m b j h.val c) ⊢ spay m b h j c) (hl : (emp : sProp 𝕄) ⊢ lend b h j c)
    (O : CellTallies nD τ sig Unit) (k : PUnit → BProg F) (Q : PUnit → sProp 𝕄) :
    iprop(records m K ∗ tick h c (b, j) ∗ holds (srcB b h j c) c (sent m b j h.val c) ∗ some' (dstB b h j c) (nbr b c) ∗ fwd b h j c ∗ owesW c (O + tl c h (b, j)))
      ⊢ iprop(((flight h c (b, j) ∗ owesW c O) -∗ WP c (k ⟨⟩) Q) -∗ WP c (send b h j c >>= k) Q) := by
  unfold holds
  iintro ⟨#Hr, Ht, ⟨%fs, %hv, Hs⟩, Hd, Hf, Ho⟩
  iapply (wp_send_keep m K b h j c fs hv ((holds_intro _ _ _ _ hv).trans hs) hl O k Q)
  isplitr; · iexact Hr
  isplitl [Ht]; · iexact Ht
  isplitl [Hs]; · iexact Hs
  isplitl [Hd]; · iexact Hd
  isplitl [Hf]; · iexact Hf
  iexact Ho

/-- and the second. -/
theorem wp_send_give (b : Bool) (h : Fin 6) (j : Fin 4) (c : Dev nD) (hs : (emp : sProp 𝕄) ⊢ spay m b h j c) (hl : some' (srcB b h j c) c ⊢ (lend b h j c : sProp 𝕄))
    (O : CellTallies nD τ sig Unit) (k : PUnit → BProg F) (Q : PUnit → sProp 𝕄) :
    iprop(records m K ∗ tick h c (b, j) ∗ holds (srcB b h j c) c (sent m b j h.val c) ∗ some' (dstB b h j c) (nbr b c) ∗ fwd b h j c ∗ owesW c (O + tl c h (b, j)))
      ⊢ iprop(((flight h c (b, j) ∗ owesW c O) -∗ WP c (k ⟨⟩) Q) -∗ WP c (send b h j c >>= k) Q) := by
  unfold holds
  iintro ⟨#Hr, Ht, ⟨%fs, %hv, Hs⟩, Hd, Hf, Ho⟩
  iapply (wp_send_lend m K b h j c fs hv hs ((some_intro _ _ _).trans hl) O k Q)
  isplitr; · iexact Hr
  isplitl [Ht]; · iexact Ht
  isplitl [Hs]; · iexact Hs
  isplitl [Hd]; · iexact Hd
  isplitl [Hf]; · iexact Hf
  iexact Ho

/-- Send a hop. -/
theorem wp_send (b : Bool) (j : Fin 4) (c : Dev nD) (O : CellTallies nD τ sig Unit) (k : PUnit → BProg F) (Q : PUnit → sProp 𝕄) : ∀ h : Fin 6,
    iprop(records m K ∗ tick h c (b, j) ∗ srcRes m b h j c ∗ some' (dstB b h j c) (nbr b c) ∗ fwd b h j c ∗ owesW c (O + tl c h (b, j)))
      ⊢ iprop(((flight h c (b, j) ∗ owesW c O) -∗ WP c (k ⟨⟩) Q) -∗ WP c (send b h j c >>= k) Q)
  | 0 => wp_send_keep m K b 0 j c (xstg m c) rfl .rfl .rfl O k Q
  | 1 => wp_send_give m K b 1 j c .rfl .rfl O k Q
  | 2 => wp_send_give m K b 2 j c .rfl .rfl O k Q
  | 3 => wp_send_back m K b 3 j c .rfl .rfl O k Q
  | 4 => wp_send_back m K b 4 j c .rfl .rfl O k Q
  | 5 => wp_send_back m K b 5 j c .rfl .rfl O k Q

/-! ## An addition -/

/-- An addition at a given offset. -/
def addAt (b : Bool) (s : Fin 3) (j : Fin 4) (o : Fin 2 → Nat) (ho : ∀ a, o a + S128x1024.size a ≤ S4096x1024.size a) : BProg F :=
  .op (.load xM (Rect.unit (s := S4096x1024) o S128x1024.size ho).toLoadRect (View.loadsAt_vmem h_S128x1024)) fun x =>
  .op (.load (rM b) (Rect.unit (s := S3x512x1024) ![s.val, 128 * j.val, 0] S1x128x1024.size (slot_inb s j)).toLoadRect (View.loadsAt_vmem h_S1x128x1024)) fun r =>
  .op (.load oM (Rect.unit (s := S4096x1024) o S128x1024.size ho).toLoadRect (View.loadsAt_vmem h_S128x1024)) fun _ =>
  .op (.store oM (Rect.unit (s := S4096x1024) o S128x1024.size ho) (addRows x r) Finset.univ (View.stores_vmem_bits_univ h_S128x1024 rfl) (.inl rfl)) .ret

theorem addAt_congr (b : Bool) (s : Fin 3) (j : Fin 4) {o o' : Fin 2 → Nat} (e : o = o') (ho : ∀ a, o a + S128x1024.size a ≤ S4096x1024.size a)
    (ho' : ∀ a, o' a + S128x1024.size a ≤ S4096x1024.size a) : (addAt b s j o ho : BProg F) = addAt b s j o' ho' := by subst e; rfl

theorem add_eq (b : Bool) (s : Fin 3) (j : Fin 4) (d : Dev nD) :
    (add b s j d : BProg F) = addAt b s j ![row b (chunk b (s.val + 1) d) j, 0] (row_inb b _ j) :=
  addAt_congr b s j (addOff_eq b s j d) _ _

/-- The rows of the argument plus the rows of the slot go to the same rows of the result. -/
theorem wp_add (b : Bool) (s : Fin 3) (j k' : Fin 4) (c : Dev nD) (v : FVec F S128x1024 .f32) (k : PUnit → BProg F) (Q : PUnit → sProp 𝕄) :
    iprop(xAt m b k' j c ∗ holds (slotM b s j) c v ∗ some' (oB b k' j) c)
      ⊢ iprop(((xAt m b k' j c ∗ some' (slotM b s j) c ∗ holds (oB b k' j) c (addf (xv m b k' j c) v)) -∗ WP c (k ⟨⟩) Q)
        -∗ WP c (addAt b s j ![row b k' j, 0] (row_inb b k' j) >>= k) Q) := by
  unfold xAt addAt
  simp only [Prog.bind_op, Prog.bind_ret]
  iintro ⟨Hx, Hs, Ho⟩ Hk
  ihave ⟨%fr, %hr, Hs⟩ := (holds_elim (slotM b s j) c v) $$ Hs
  ihave ⟨%fo, Ho⟩ := (some_elim (oB b k' j) c) $$ Ho
  iapply (wp_load_rect 𝒱₀ (c : Thread nD τ) none Set.univ (m := xM) (r := Rect.unit (s := S4096x1024) ![row b k' j, 0] S128x1024.size (row_inb b k' j))
    (S := (xB b k' j).view.set) (f := xstg m c) (Finset.Subset.refl _)) $$ Hx
  iintro Hx
  iapply (wp_load 𝒱₀ (c : Thread nD τ) none Set.univ (m := rM b) (S := (slotM b s j).view.set) (f := fr)
    (by rw [Memref.set_view_squeeze]; exact (View.set_slice _ _).symm.subset)) $$ Hs
  iintro Hs
  iapply (wp_load_rect 𝒱₀ (c : Thread nD τ) none Set.univ (m := oM) (r := Rect.unit (s := S4096x1024) ![row b k' j, 0] S128x1024.size (row_inb b k' j))
    (S := (oB b k' j).view.set) (f := fo) (Finset.Subset.refl _)) $$ Ho
  iintro Ho
  iapply (wp_store 𝒱₀ (c : Thread nD τ) none Set.univ (m := oM) (r := Rect.unit (s := S4096x1024) ![row b k' j, 0] S128x1024.size (row_inb b k' j))
    (Mk := Finset.univ) (S := (oB b k' j).view.set) (f := fo) (Finset.Subset.refl _)) $$ Ho
  iintro Ho
  iapply Hk
  isplitl [Hx]; · iexact Hx
  isplitl [Hs]; · iapply (some_intro (slotM b s j) c fr); iexact Hs
  iapply (holds_intro (oB b k' j) c _ ((oB b k' j).view.write (Elt F) fo (addRows ((xB b k' j).view.read (Elt F) (xstg m c))
    ((rM b).view.readAt (Elt F) (Rect.unit (s := S3x512x1024) ![s.val, 128 * j.val, 0] S1x128x1024.size (slot_inb s j)).toLoadRect fr)) Finset.univ) (by
      rw [View.read_write_univ]; unfold addRows; rw [shapeCast_self]
      exact congrArg (addf (xv m b k' j c)) hr))
  iexact Ho

/-! ## A round -/

/-- A round of the lanes: each lane's part turns `P` into `R` and pays what the lane owes. -/
theorem wp_each (c : Dev nD) (P₀ : sProp 𝕄) [BI.Persistent P₀] (f : Lane → BProg F) (P R : Lane → sProp 𝕄) (O : List Lane → CellTallies nD τ sig Unit)
    (hf : ∀ (l : Lane) (ls : List Lane) (k : PUnit → BProg F) (Q : PUnit → sProp 𝕄),
      iprop(P₀ ∗ P l ∗ owesW c (O (l :: ls))) ⊢ iprop(((R l ∗ owesW c (O ls)) -∗ WP c (k ⟨⟩) Q) -∗ WP c (f l >>= k) Q))
    (k : PUnit → BProg F) (Q : PUnit → sProp 𝕄) : ∀ ls : List Lane,
    iprop(P₀ ∗ bigSepL ls P ∗ owesW c (O ls)) ⊢ iprop(((bigSepL ls R ∗ owesW c (O [])) -∗ WP c (k ⟨⟩) Q) -∗ WP c (each f ls >>= k) Q)
  | [] => by
    iintro ⟨-, -, Ho⟩ Hk
    iapply (show WP c (k ⟨⟩) Q ⊢ WP c (each f [] >>= k) Q from .rfl)
    iapply Hk
    isplitr [Ho]; · iapply (show (emp : sProp 𝕄) ⊢ bigSepL [] R from .rfl); iempintro
    iexact Ho
  | l :: ls => by
    rw [bigSepL_cons', bigSepL_cons', show each f (l :: ls) >>= k = f l >>= fun _ => each f ls >>= k from Prog.bind_assoc _ _ _]
    iintro ⟨#H0, ⟨Hp, Hps⟩, Ho⟩ Hk
    iapply (hf l ls (fun _ => each f ls >>= k) Q) $$ [Hp Ho]
    · isplitr; · iexact H0
      isplitl [Hp]; · iexact Hp
      iexact Ho
    iintro ⟨Hr, Ho⟩
    iapply (wp_each c P₀ f P R O hf k Q ls) $$ [Hps Ho]
    · isplitr; · iexact H0
      isplitl [Hps]; · iexact Hps
      iexact Ho
    iintro ⟨Hrs, Ho⟩
    iapply Hk
    isplitr [Ho]
    · isplitl [Hr]; · iexact Hr
      iexact Hrs
    iexact Ho

end Cert.KernelIdeal.Ring

end
-- ==== Proof.Lanes.lean ====
module

public import proofs.«01_k».proof.Proof.Rules

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # One lane through the hops

A lane is a sub-block of one direction. Between two hops a device holds of it: its rows of the argument, its receive slots
as far as they came back, its rows of the result, and what it has of its neighbours'. -/

variable (m : (ℓ : Loc nD τ sig) → Buf (Elt F) ℓ) (K : Dev nD × Option Key → ℕ)

section Lane
variable (c : Dev nD) (l : Lane)

/-- The rows of the argument in the chunk that hop `n` is about; -/
def xP (n : ℕ) : sProp 𝕄 := xAt m l.1 (chunk l.1 n c) l.2 c
/-- those of the result on device `d`; -/
def oP (n : ℕ) (d : Dev nD) : sProp 𝕄 := some' (oB l.1 (chunk l.1 n c) l.2) d
/-- those of the result, at what is sent at hop `n`; -/
def hP (n : ℕ) : sProp 𝕄 := holds (oB l.1 (chunk l.1 n c) l.2) c (sent m l.1 l.2 n c)
/-- a receive slot on device `d`. -/
def rP (s : Fin 3) (d : Dev nD) : sProp 𝕄 := some' (slotM l.1 s l.2) d

/-- All rows of the argument. -/
def xAll : sProp 𝕄 := iprop(xP m c l 0 ∗ xP m c l 1 ∗ xP m c l 2 ∗ xP m c l 3)
/-- All slots. -/
def rAll (d : Dev nD) : sProp 𝕄 := iprop(rP l 0 d ∗ rP l 1 d ∗ rP l 2 d)

/-- What device `c` holds of a lane while hop `h` is in flight. -/
def ext (h : Fin 6) : sProp 𝕄 :=
  match h with
  | 0 => iprop((xP m c l 1 ∗ xP m c l 2 ∗ xP m c l 3) ∗ (rP l 1 (nbr l.1 c) ∗ rP l 2 (nbr l.1 c)) ∗ (oP c l 1 c ∗ oP c l 2 c ∗ oP c l 3 c) ∗ oP c l 3 (nbr l.1 c))
  | 1 => iprop(xAll m c l ∗ rP l 2 (nbr l.1 c) ∗ rP l 0 c ∗ (oP c l 2 c ∗ oP c l 3 c) ∗ oP c l 3 (nbr l.1 c))
  | 2 => iprop(xAll m c l ∗ (rP l 0 c ∗ rP l 1 c) ∗ oP c l 3 c ∗ oP c l 3 (nbr l.1 c))
  | 3 => iprop(xAll m c l ∗ rAll l c)
  | 4 => iprop(xAll m c l ∗ rAll l c ∗ hP m c l 3)
  | 5 => iprop(xAll m c l ∗ rAll l c ∗ hP m c l 3 ∗ hP m c l 4)
/-- Before hop 0: -/
def ext₀ : sProp 𝕄 := iprop(xAll m c l ∗ rAll l (nbr l.1 c) ∗ (oP c l 1 c ∗ oP c l 2 c ∗ oP c l 3 c) ∗ oP c l 3 (nbr l.1 c))
/-- after hop 5: everything of its own, the result complete. -/
def ext₆ : sProp 𝕄 := iprop(xAll m c l ∗ rAll l c ∗ hP m c l 3 ∗ hP m c l 4 ∗ hP m c l 5 ∗ hP m c l 6)

/-! ## What each arrival brings -/

theorem sent_three : sent m l.1 l.2 3 (prv l.1 c) = sent m l.1 l.2 4 c := by
  rw [sent]; exact (if_neg (by decide)).symm
theorem sent_four : sent m l.1 l.2 4 (prv l.1 c) = sent m l.1 l.2 5 c := by
  conv_rhs => rw [sent]
  exact (if_neg (by decide)).symm
theorem sent_five : sent m l.1 l.2 5 (prv l.1 c) = sent m l.1 l.2 6 c := by
  conv_rhs => rw [sent]
  exact (if_neg (by decide)).symm

theorem got0 : rpay m l.1 0 l.2 (prv l.1 c) c ⊢ iprop(holds (slotM l.1 0 l.2) c (sent m l.1 l.2 0 (prv l.1 c)) ∗ fwd l.1 1 l.2 c) := by
  simp only [rpay, fwd, lend, dstB]
  iintro ⟨⟨H, H'⟩, -⟩; isplitl [H]; · iexact H
  iexact H'

theorem got1 : rpay m l.1 1 l.2 (prv l.1 c) c ⊢ iprop(holds (slotM l.1 1 l.2) c (sent m l.1 l.2 1 (prv l.1 c)) ∗ fwd l.1 2 l.2 c) := by
  have e : chunk l.1 1 (prv l.1 c) = chunk l.1 2 c := chunk_prv l.1 1 c
  simp only [rpay, fwd, lend, dstB]
  rw [e]; iintro ⟨⟨H, -⟩, H'⟩; isplitl [H]; · iexact H
  iexact H'

theorem got2 : rpay m l.1 2 l.2 (prv l.1 c) c ⊢ iprop(holds (slotM l.1 2 l.2) c (sent m l.1 l.2 2 (prv l.1 c)) ∗ fwd l.1 3 l.2 c) := by
  have e : chunk l.1 2 (prv l.1 c) = chunk l.1 3 c := chunk_prv l.1 2 c
  simp only [rpay, fwd, lend, dstB]
  rw [e]; iintro ⟨⟨H, H1⟩, H2⟩; isplitl [H]; · iexact H
  isplitl [H2]; · iexact H2
  iexact H1

theorem got3 : rpay m l.1 3 l.2 (prv l.1 c) c ⊢ iprop(hP m c l 4 ∗ oP c l 4 (nbr l.1 c) ∗ fwd l.1 4 l.2 c) := by
  have e : chunk l.1 3 (prv l.1 c) = chunk l.1 4 c := chunk_prv l.1 3 c
  simp only [rpay, fwd, lend, dstB, hP, oP]
  rw [e, prv3, ← sent_three]; iintro ⟨⟨H, H1, H2⟩, -⟩; isplitl [H]; · iexact H
  isplitl [H2]; · iexact H2
  iexact H1

theorem got4 : rpay m l.1 4 l.2 (prv l.1 c) c ⊢ iprop(hP m c l 5 ∗ oP c l 5 (nbr l.1 c)) := by
  have e : chunk l.1 4 (prv l.1 c) = chunk l.1 5 c := chunk_prv l.1 4 c
  simp only [rpay, fwd, lend, dstB, hP, oP]
  rw [e, prv3, ← sent_four]; iintro ⟨⟨H, H1⟩, -⟩; isplitl [H]; · iexact H
  iexact H1

theorem got5 : rpay m l.1 5 l.2 (prv l.1 c) c ⊢ hP m c l 6 := by
  have e : chunk l.1 5 (prv l.1 c) = chunk l.1 6 c := chunk_prv l.1 5 c
  simp only [rpay, fwd, lend, dstB, hP]
  rw [e, ← sent_five]; iintro ⟨⟨H, -⟩, -⟩; iexact H

/-! ## The steps -/

/-- A lane's part of a phase on device `c`: it turns `P` into `R`, and what is owed from `O` into `O'`. -/
def Turns (p : BProg F) (P R : sProp 𝕄) (O O' : CellTallies nD τ sig Unit) : Prop :=
  ∀ (k : PUnit → BProg F) (Q : PUnit → sProp 𝕄),
    iprop((records m K ∗ levAts L lv) ∗ P ∗ owesW c O) ⊢ iprop(((R ∗ owesW c O') -∗ WP c (k ⟨⟩) Q) -∗ WP c (p >>= k) Q)

/-- What else is held stays, and what is held may be put differently. -/
theorem Turns.frame {p : BProg F} {P R P' R' : sProp 𝕄} {O O' : CellTallies nD τ sig Unit} (X : sProp 𝕄) (h : Turns m K c p P R O O')
    (hP : P' ⊢ iprop(P ∗ X)) (hR : iprop(R ∗ X) ⊢ R') : Turns m K c p P' R' O O' := by
  intro k Q
  iintro ⟨#H0, Hp, Hw⟩ Hk
  ihave ⟨Hp, Hx⟩ := hP $$ Hp
  iapply (h k Q) $$ [Hp Hw]
  · isplitr; · iexact H0
    isplitl [Hp]; · iexact Hp
    iexact Hw
  iintro ⟨Hr, Hw⟩
  iapply Hk
  isplitr [Hw]
  · iapply hR; isplitl [Hr]; · iexact Hr
    iexact Hx
  iexact Hw

/-- A send. -/
theorem turns_send (h : Fin 6) (ls : List Lane) :
    Turns m K c (send l.1 h l.2 c) iprop(tick h c l ∗ srcRes m l.1 h l.2 c ∗ some' (dstB l.1 h l.2 c) (nbr l.1 c) ∗ fwd l.1 h l.2 c) (flight h c l)
      (owed c h (l :: ls)) (owed c h ls) := by
  intro k Q
  iintro ⟨⟨#Hr, -⟩, ⟨Ht, Hs, Hd, Hf⟩, Hw⟩ Hk
  ihave Hw := (Entails.of_eq (congrArg (owesW (F := F) c) (owed_cons c h l ls))) $$ Hw
  iapply (wp_send m K l.1 l.2 c (owed c h ls) k Q h) $$ [Ht Hs Hd Hf Hw]
  · isplitr; · iexact Hr
    isplitl [Ht]; · iexact Ht
    isplitl [Hs]; · iexact Hs
    isplitl [Hd]; · iexact Hd
    isplitl [Hf]; · iexact Hf
    iexact Hw
  iintro ⟨Hf, Hw⟩
  iapply Hk
  isplitl [Hf]; · iexact Hf
  iexact Hw

/-- The waits of hop `h`. -/
theorem turns_waits (h : Fin 6) (O : CellTallies nD τ sig Unit)
    (hO : ∀ (g : GSem nD τ sig) (u : Unit), 0 < O g u → ∃ (h' : Fin 6) (l : Lane), h.val < h'.val ∧ g = rCell l.1 h' l.2 (nbr l.1 c)) :
    Turns m K c (waitS l.1 h l.2 c >>= fun _ => waitR l.1 h l.2 c) (flight h c l)
      iprop(landed h c l ∗ spay m l.1 h l.2 c ∗ rpay m l.1 h l.2 (prv l.1 c) c) O O := by
  intro k Q
  iintro ⟨⟨#Hr, #Hl⟩, Hf, Hw⟩ Hk
  iapply (wp_waits m K h c l O hO k Q) $$ [Hf Hw]
  · isplitr; · iexact Hr
    isplitr; · iexact Hl
    isplitl [Hf]; · iexact Hf
    iexact Hw
  iintro ⟨Hd, Hs, Hp, Hw⟩
  iapply Hk
  isplitr [Hw]
  · isplitl [Hd]; · iexact Hd
    isplitl [Hs]; · iexact Hs
    iexact Hp
  iexact Hw

/-- An addition. -/
theorem turns_add (s : Fin 3) (O : CellTallies nD τ sig Unit) :
    Turns m K c (add l.1 s l.2 c) iprop(xP m c l (s.val + 1) ∗ holds (slotM l.1 s l.2) c (sent m l.1 l.2 s.val (prv l.1 c)) ∗ oP c l (s.val + 1) c)
      iprop(xP m c l (s.val + 1) ∗ rP l s c ∗ hP m c l (s.val + 1)) O O := by
  intro k Q
  rw [add_eq]
  have e : sent m l.1 l.2 (s.val + 1) c = addf (xv m l.1 (chunk l.1 (s.val + 1) c) l.2 c) (sent m l.1 l.2 s.val (prv l.1 c)) := by
    rw [sent]; exact if_pos s.isLt
  unfold xP oP rP hP; rw [e]
  iintro ⟨-, H, Hw⟩ Hk
  iapply (wp_add m l.1 s l.2 (chunk l.1 (s.val + 1) c) c (sent m l.1 l.2 s.val (prv l.1 c)) k Q) $$ H
  iintro H
  iapply Hk
  isplitl [H]; · iexact H
  iexact Hw

/-- One after the other. -/
theorem Turns.seq {p p' : BProg F} {P R S : sProp 𝕄} {O O' O'' : CellTallies nD τ sig Unit} (h : Turns m K c p P R O O') (h' : Turns m K c p' R S O' O'') :
    Turns m K c (p >>= fun _ => p') P S O O'' := by
  intro k Q
  rw [show (p >>= fun _ => p') >>= k = p >>= fun _ => p' >>= k from Prog.bind_assoc _ _ _]
  iintro ⟨#H0, Hp, Hw⟩ Hk
  iapply (h (fun _ => p' >>= k) Q) $$ [Hp Hw]
  · isplitr; · iexact H0
    isplitl [Hp]; · iexact Hp
    iexact Hw
  iintro ⟨Hr, Hw⟩
  iapply (h' k Q) $$ [Hr Hw]
  · isplitr; · iexact H0
    isplitl [Hr]; · iexact Hr
    iexact Hw
  iexact Hk

/-- A step of the reduce-scatter: wait for hop `h`, add, send the sum. -/
theorem turns_reduce (h h' : Fin 6) (s : Fin 3) (ls : List Lane) (hh : h.val + 1 = h'.val)
    (hgot : rpay m l.1 h l.2 (prv l.1 c) c ⊢ iprop(holds (slotM l.1 s l.2) c (sent m l.1 l.2 s.val (prv l.1 c)) ∗ fwd l.1 h' l.2 c))
    (hsrc : hP m c l (s.val + 1) ⊢ srcRes m l.1 h' l.2 c) :
    Turns m K c ((waitS l.1 h l.2 c >>= fun _ => waitR l.1 h l.2 c) >>= fun _ => add l.1 s l.2 c >>= fun _ => send l.1 h' l.2 c)
      iprop(flight h c l ∗ tick h' c l ∗ xP m c l (s.val + 1) ∗ oP c l (s.val + 1) c ∗ some' (dstB l.1 h' l.2 c) (nbr l.1 c))
      iprop((landed h c l ∗ spay m l.1 h l.2 c) ∗ flight h' c l ∗ xP m c l (s.val + 1) ∗ rP l s c)
      (owed c h' (l :: ls)) (owed c h' ls) := by
  refine Turns.seq m K c ((turns_waits m K c l h _ fun g u hg => ?_).frame m K c
      iprop(tick h' c l ∗ xP m c l (s.val + 1) ∗ oP c l (s.val + 1) c ∗ some' (dstB l.1 h' l.2 c) (nbr l.1 c)) .rfl .rfl)
    (Turns.seq m K c ((turns_add m K c l s _).frame m K c
        iprop((landed h c l ∗ spay m l.1 h l.2 c) ∗ tick h' c l ∗ some' (dstB l.1 h' l.2 c) (nbr l.1 c) ∗ fwd l.1 h' l.2 c) ?_ .rfl)
      ((turns_send m K c l h' ls).frame m K c
        iprop((landed h c l ∗ spay m l.1 h l.2 c) ∗ xP m c l (s.val + 1) ∗ rP l s c) ?_ ?_))
  · obtain ⟨h'', l', h1, e⟩ := owed_pos hg; exact ⟨h'', l', by omega, e⟩
  · iintro ⟨⟨H1, H2, H3⟩, H4, H5, H6, H7⟩
    ihave ⟨H3, H8⟩ := hgot $$ H3
    iframe
  · iintro ⟨⟨H1, H2, H3⟩, H4, H5, H6, H7⟩
    ihave H3 := hsrc $$ H3
    iframe
  · iintro ⟨H1, H2, H3, H4⟩; iframe

/-- A step of the all-gather: wait for hop `h`, send on what arrived. -/
theorem turns_gather (h h' : Fin 6) (ls : List Lane) (hh : h.val + 1 = h'.val)
    (hgot : rpay m l.1 h l.2 (prv l.1 c) c ⊢ iprop(srcRes m l.1 h' l.2 c ∗ some' (dstB l.1 h' l.2 c) (nbr l.1 c) ∗ fwd l.1 h' l.2 c)) :
    Turns m K c ((waitS l.1 h l.2 c >>= fun _ => waitR l.1 h l.2 c) >>= fun _ => send l.1 h' l.2 c)
      iprop(flight h c l ∗ tick h' c l) iprop((landed h c l ∗ spay m l.1 h l.2 c) ∗ flight h' c l)
      (owed c h' (l :: ls)) (owed c h' ls) := by
  refine Turns.seq m K c ((turns_waits m K c l h _ fun g u hg => ?_).frame m K c (tick h' c l) .rfl .rfl)
      ((turns_send m K c l h' ls).frame m K c iprop(landed h c l ∗ spay m l.1 h l.2 c) ?_ sep_comm.1)
  · obtain ⟨h'', l', h1, e⟩ := owed_pos hg; exact ⟨h'', l', by omega, e⟩
  · iintro ⟨⟨H1, H2, H3⟩, H4⟩
    ihave H3 := hgot $$ H3
    iframe

/-! ## Hop by hop -/

theorem hop_first (ls : List Lane) :
    Turns m K c (send l.1 0 l.2 c) iprop(tick 0 c l ∗ ext₀ m c l) iprop(flight 0 c l ∗ ext m c l 0) (owed c 0 (l :: ls)) (owed c 0 ls) := by
  refine (turns_send m K c l 0 ls).frame m K c
    iprop((xP m c l 1 ∗ xP m c l 2 ∗ xP m c l 3) ∗ (rP l 1 (nbr l.1 c) ∗ rP l 2 (nbr l.1 c)) ∗ (oP c l 1 c ∗ oP c l 2 c ∗ oP c l 3 c) ∗ oP c l 3 (nbr l.1 c)) ?_ .rfl
  show iprop(tick 0 c l ∗ (xP m c l 0 ∗ xP m c l 1 ∗ xP m c l 2 ∗ xP m c l 3) ∗ (rP l 0 (nbr l.1 c) ∗ rP l 1 (nbr l.1 c) ∗ rP l 2 (nbr l.1 c))
      ∗ (oP c l 1 c ∗ oP c l 2 c ∗ oP c l 3 c) ∗ oP c l 3 (nbr l.1 c))
    ⊢ iprop((tick 0 c l ∗ xP m c l 0 ∗ rP l 0 (nbr l.1 c) ∗ emp) ∗ _)
  iintro ⟨Ht, ⟨H0, H1, H2, H3⟩, ⟨Hs, Hr⟩, Ho, Hn⟩
  isplitr [H1 H2 H3 Hr Ho Hn]
  · isplitl [Ht]; · iexact Ht
    isplitl [H0]; · iexact H0
    isplitl [Hs]; · iexact Hs
    iempintro
  iframe

/-- One step of the loop over hops. -/
theorem hop_step (ls : List Lane) : ∀ h : Fin 5,
    Turns m K c (step l.1 h l.2 c) iprop(flight h.castSucc c l ∗ tick h.succ c l ∗ ext m c l h.castSucc)
      iprop(landed h.castSucc c l ∗ flight h.succ c l ∗ ext m c l h.succ) (owed c h.succ (l :: ls)) (owed c h.succ ls)
  | 0 => by
    refine (turns_reduce m K c l 0 1 0 ls rfl (got0 m c l) .rfl).frame m K c
      iprop((xP m c l 2 ∗ xP m c l 3) ∗ rP l 2 (nbr l.1 c) ∗ (oP c l 2 c ∗ oP c l 3 c) ∗ oP c l 3 (nbr l.1 c)) ?_ ?_
    · show iprop(flight 0 c l ∗ tick 1 c l ∗ (xP m c l 1 ∗ xP m c l 2 ∗ xP m c l 3) ∗ (rP l 1 (nbr l.1 c) ∗ rP l 2 (nbr l.1 c)) ∗ (oP c l 1 c ∗ oP c l 2 c ∗ oP c l 3 c) ∗ oP c l 3 (nbr l.1 c))
        ⊢ iprop((flight 0 c l ∗ tick 1 c l ∗ xP m c l 1 ∗ oP c l 1 c ∗ rP l 1 (nbr l.1 c)) ∗ _)
      iintro ⟨H1, H2, ⟨X1, X2, X3⟩, ⟨R1, R2⟩, ⟨O1, O2, O3⟩, N⟩; iframe
    · show iprop(((landed 0 c l ∗ xP m c l 0) ∗ flight 1 c l ∗ xP m c l 1 ∗ rP l 0 c) ∗ _)
        ⊢ iprop(landed 0 c l ∗ flight 1 c l ∗ (xP m c l 0 ∗ xP m c l 1 ∗ xP m c l 2 ∗ xP m c l 3) ∗ rP l 2 (nbr l.1 c) ∗ rP l 0 c ∗ (oP c l 2 c ∗ oP c l 3 c) ∗ oP c l 3 (nbr l.1 c))
      iintro ⟨⟨⟨H1, X0⟩, H2, X1, R0⟩, ⟨X2, X3⟩, R2, ⟨O2, O3⟩, N⟩; iframe
  | 1 => by
    refine (turns_reduce m K c l 1 2 1 ls rfl (got1 m c l) .rfl).frame m K c
      iprop((xP m c l 0 ∗ xP m c l 1 ∗ xP m c l 3) ∗ rP l 0 c ∗ oP c l 3 c ∗ oP c l 3 (nbr l.1 c)) ?_ ?_
    · show iprop(flight 1 c l ∗ tick 2 c l ∗ (xP m c l 0 ∗ xP m c l 1 ∗ xP m c l 2 ∗ xP m c l 3) ∗ rP l 2 (nbr l.1 c) ∗ rP l 0 c ∗ (oP c l 2 c ∗ oP c l 3 c) ∗ oP c l 3 (nbr l.1 c))
        ⊢ iprop((flight 1 c l ∗ tick 2 c l ∗ xP m c l 2 ∗ oP c l 2 c ∗ rP l 2 (nbr l.1 c)) ∗ _)
      iintro ⟨H1, H2, ⟨X0, X1, X2, X3⟩, R2, R0, ⟨O2, O3⟩, N⟩; iframe
    · show iprop(((landed 1 c l ∗ emp) ∗ flight 2 c l ∗ xP m c l 2 ∗ rP l 1 c) ∗ _)
        ⊢ iprop(landed 1 c l ∗ flight 2 c l ∗ (xP m c l 0 ∗ xP m c l 1 ∗ xP m c l 2 ∗ xP m c l 3) ∗ (rP l 0 c ∗ rP l 1 c) ∗ oP c l 3 c ∗ oP c l 3 (nbr l.1 c))
      iintro ⟨⟨⟨H1, -⟩, H2, X2, R1⟩, ⟨X0, X1, X3⟩, R0, O3, N⟩; iframe
  | 2 => by
    refine (turns_reduce m K c l 2 3 2 ls rfl (got2 m c l) .rfl).frame m K c
      iprop((xP m c l 0 ∗ xP m c l 1 ∗ xP m c l 2) ∗ rP l 0 c ∗ rP l 1 c) ?_ ?_
    · show iprop(flight 2 c l ∗ tick 3 c l ∗ (xP m c l 0 ∗ xP m c l 1 ∗ xP m c l 2 ∗ xP m c l 3) ∗ (rP l 0 c ∗ rP l 1 c) ∗ oP c l 3 c ∗ oP c l 3 (nbr l.1 c))
        ⊢ iprop((flight 2 c l ∗ tick 3 c l ∗ xP m c l 3 ∗ oP c l 3 c ∗ oP c l 3 (nbr l.1 c)) ∗ _)
      iintro ⟨H1, H2, ⟨X0, X1, X2, X3⟩, ⟨R0, R1⟩, O3, N⟩; iframe
    · show iprop(((landed 2 c l ∗ emp) ∗ flight 3 c l ∗ xP m c l 3 ∗ rP l 2 c) ∗ _)
        ⊢ iprop(landed 2 c l ∗ flight 3 c l ∗ (xP m c l 0 ∗ xP m c l 1 ∗ xP m c l 2 ∗ xP m c l 3) ∗ rP l 0 c ∗ rP l 1 c ∗ rP l 2 c)
      iintro ⟨⟨⟨H1, -⟩, H2, X3, R2⟩, ⟨X0, X1, X2⟩, R0, R1⟩; iframe
  | 3 => by
    refine (turns_gather m K c l 3 4 ls rfl (got3 m c l)).frame m K c iprop(xAll m c l ∗ rAll l c) ?_ ?_
    · show iprop(flight 3 c l ∗ tick 4 c l ∗ xAll m c l ∗ rAll l c) ⊢ _
      iintro ⟨H1, H2, H3, H4⟩; iframe
    · show iprop(((landed 3 c l ∗ hP m c l 3) ∗ flight 4 c l) ∗ xAll m c l ∗ rAll l c)
        ⊢ iprop(landed 3 c l ∗ flight 4 c l ∗ xAll m c l ∗ rAll l c ∗ hP m c l 3)
      iintro ⟨⟨⟨H1, H2⟩, H3⟩, H4, H5⟩; iframe
  | 4 => by
    refine (turns_gather m K c l 4 5 ls rfl ((got4 m c l).trans (sep_mono_right ((sep_emp (PROP := sProp 𝕄)).2)))).frame m K c
      iprop(xAll m c l ∗ rAll l c ∗ hP m c l 3) ?_ ?_
    · show iprop(flight 4 c l ∗ tick 5 c l ∗ xAll m c l ∗ rAll l c ∗ hP m c l 3) ⊢ _
      iintro ⟨H1, H2, H3, H4, H5⟩; iframe
    · show iprop(((landed 4 c l ∗ hP m c l 4) ∗ flight 5 c l) ∗ xAll m c l ∗ rAll l c ∗ hP m c l 3)
        ⊢ iprop(landed 4 c l ∗ flight 5 c l ∗ xAll m c l ∗ rAll l c ∗ hP m c l 3 ∗ hP m c l 4)
      iintro ⟨⟨⟨H1, H2⟩, H3⟩, H4, H5, H6⟩; iframe

theorem hop_last : Turns m K c (fin l.1 l.2 c) iprop(flight 5 c l ∗ ext m c l 5) iprop(landed 5 c l ∗ ext₆ m c l) 0 0 := by
  refine (turns_waits m K c l 5 0 (fun g u hg => absurd hg (lt_irrefl 0))).frame m K c (ext m c l 5) .rfl ?_
  show iprop((landed 5 c l ∗ hP m c l 5 ∗ rpay m l.1 5 l.2 (prv l.1 c) c) ∗ xAll m c l ∗ rAll l c ∗ hP m c l 3 ∗ hP m c l 4) ⊢ _
  unfold ext₆
  iintro ⟨⟨H1, H2, H3⟩, H4, H5, H6, H7⟩
  ihave H3 := (got5 m c l) $$ H3
  iframe

end Lane

/-! ## Phase by phase -/

section Phase
variable (c : Dev nD)

/-- A phase goes through the lanes. -/
theorem phase (f : Lane → BProg F) (P R : Lane → sProp 𝕄) (O : List Lane → CellTallies nD τ sig Unit)
    (hf : ∀ l ls, Turns m K c (f l) (P l) (R l) (O (l :: ls)) (O ls)) :
    Turns m K c (each f lanes) (bigSep Finset.univ P) (bigSep Finset.univ R) (O lanes) (O []) := by
  intro k Q
  rw [bigSep_univ_eq_bigSepL lanes (by decide) (by decide) P, bigSep_univ_eq_bigSepL lanes (by decide) (by decide) R]
  exact wp_each c iprop(records m K ∗ levAts L lv) f P R O (fun l ls k Q => hf l ls k Q) k Q lanes

theorem phase_first : Turns m K c (each (fun l => send l.1 0 l.2 c) lanes)
    iprop((bigSep Finset.univ fun l => tick (F := F) 0 c l) ∗ bigSep Finset.univ fun l => ext₀ m c l)
    iprop((bigSep Finset.univ fun l => flight (F := F) 0 c l) ∗ bigSep Finset.univ fun l => ext m c l 0) (owedFrom c 0) (owed c 1 lanes) := by
  rw [← bigSep_sep', ← bigSep_sep', show owed c 1 lanes = owed c 0 [] from (owed_nil c 0).symm, show owedFrom c 0 = owed c 0 lanes from (owed_lanes c 0).symm]
  exact phase m K c _ _ _ (owed c 0) fun l ls => hop_first m K c l ls

theorem phase_step (h : Fin 5) : Turns m K c (each (fun l => step l.1 h l.2 c) lanes)
    iprop((bigSep Finset.univ fun l => flight (F := F) h.castSucc c l) ∗ (bigSep Finset.univ fun l => tick (F := F) h.succ c l) ∗ bigSep Finset.univ fun l => ext m c l h.castSucc)
    iprop((bigSep Finset.univ fun l => landed (F := F) h.castSucc c l) ∗ (bigSep Finset.univ fun l => flight (F := F) h.succ c l) ∗ bigSep Finset.univ fun l => ext m c l h.succ)
    (owed c h.succ lanes) (owed c h.succ []) := by
  rw [← bigSep_sep', ← bigSep_sep', ← bigSep_sep', ← bigSep_sep']
  exact phase m K c _ _ _ (owed c h.succ) fun l ls => hop_step m K c l ls h

theorem phase_last : Turns m K c (each (fun l => fin l.1 l.2 c) lanes)
    iprop((bigSep Finset.univ fun l => flight (F := F) 5 c l) ∗ bigSep Finset.univ fun l => ext m c l 5)
    iprop((bigSep Finset.univ fun l => landed (F := F) 5 c l) ∗ bigSep Finset.univ fun l => ext₆ m c l) 0 0 := by
  rw [← bigSep_sep', ← bigSep_sep']
  exact phase m K c _ _ _ (fun _ => 0) fun l ls => hop_last m K c l

/-- The whole of the body after the handshake. -/
def rounds (c : Dev nD) : BProg F :=
  each (fun l => send l.1 0 l.2 c) lanes >>= fun _ =>
  each (fun l => step l.1 0 l.2 c) lanes >>= fun _ =>
  each (fun l => step l.1 1 l.2 c) lanes >>= fun _ =>
  each (fun l => step l.1 2 l.2 c) lanes >>= fun _ =>
  each (fun l => step l.1 3 l.2 c) lanes >>= fun _ =>
  each (fun l => step l.1 4 l.2 c) lanes >>= fun _ =>
  each (fun l => fin l.1 l.2 c) lanes

/-- Phases in a row: each takes what the one before left in flight. -/
theorem chain (T D A E : Fin 6 → sProp 𝕄) (E₀ E₆ : sProp 𝕄)
    (s0 : Turns m K c (each (fun l => send l.1 0 l.2 c) lanes) iprop(T 0 ∗ E₀) iprop(A 0 ∗ E 0) (owedFrom c 0) (owed c 1 lanes))
    (st : ∀ (h : Fin 5) (a b : Fin 6) (O : CellTallies nD τ sig Unit), a = h.castSucc → b = h.succ → owed c b [] = O →
      Turns m K c (each (fun l => step l.1 h l.2 c) lanes) iprop(A a ∗ T b ∗ E a) iprop(D a ∗ A b ∗ E b) (owed c b lanes) O)
    (s6 : Turns m K c (each (fun l => fin l.1 l.2 c) lanes) iprop(A 5 ∗ E 5) iprop(D 5 ∗ E₆) 0 0) :
    Turns m K c (rounds c) iprop((T 0 ∗ T 1 ∗ T 2 ∗ T 3 ∗ T 4 ∗ T 5) ∗ E₀) iprop((D 0 ∗ D 1 ∗ D 2 ∗ D 3 ∗ D 4 ∗ D 5) ∗ E₆) (owedFrom c 0) 0 :=
  Turns.seq m K c (s0.frame m K c iprop(T 1 ∗ T 2 ∗ T 3 ∗ T 4 ∗ T 5) (by iintro ⟨⟨T0, T1, T2, T3, T4, T5⟩, E⟩; iframe) .rfl)
    (Turns.seq m K c ((st 0 0 1 _ rfl rfl (owed_nil c 1)).frame m K c iprop(T 2 ∗ T 3 ∗ T 4 ∗ T 5) (by iintro ⟨⟨A, E⟩, T1, T2, T3, T4, T5⟩; iframe) .rfl)
    (Turns.seq m K c ((st 1 1 2 _ rfl rfl (owed_nil c 2)).frame m K c iprop(D 0 ∗ T 3 ∗ T 4 ∗ T 5) (by iintro ⟨⟨D0, A, E⟩, T2, T3, T4, T5⟩; iframe) .rfl)
    (Turns.seq m K c ((st 2 2 3 _ rfl rfl (owed_nil c 3)).frame m K c iprop((D 0 ∗ D 1) ∗ T 4 ∗ T 5) (by iintro ⟨⟨D1, A, E⟩, D0, T3, T4, T5⟩; iframe) .rfl)
    (Turns.seq m K c ((st 3 3 4 _ rfl rfl (owed_nil c 4)).frame m K c iprop((D 0 ∗ D 1 ∗ D 2) ∗ T 5) (by iintro ⟨⟨D2, A, E⟩, ⟨D0, D1⟩, T4, T5⟩; iframe) .rfl)
    (Turns.seq m K c ((st 4 4 5 _ rfl rfl (owed_last c)).frame m K c iprop(D 0 ∗ D 1 ∗ D 2 ∗ D 3) (by iintro ⟨⟨D3, A, E⟩, ⟨D0, D1, D2⟩, T5⟩; iframe) .rfl)
      (s6.frame m K c iprop(D 0 ∗ D 1 ∗ D 2 ∗ D 3 ∗ D 4) (by iintro ⟨⟨D4, A, E⟩, D0, D1, D2, D3⟩; iframe)
        (by iintro ⟨⟨D5, E⟩, D0, D1, D2, D3, D4⟩; iframe)))))))

/-- Before: every hop of every lane to be paid, the lanes at their start. After: every hop over, the lanes complete. -/
theorem all_phases : Turns m K c (rounds c)
    iprop((bigSep Finset.univ fun h : Fin 6 => bigSep Finset.univ fun l => tick (F := F) h c l) ∗ bigSep Finset.univ fun l => ext₀ m c l)
    iprop((bigSep Finset.univ fun h : Fin 6 => bigSep Finset.univ fun l => landed (F := F) h c l) ∗ bigSep Finset.univ fun l => ext₆ m c l) (owedFrom c 0) 0 := by
  have six : ∀ Φ : Fin 6 → sProp 𝕄, bigSep Finset.univ Φ = iprop(Φ 0 ∗ Φ 1 ∗ Φ 2 ∗ Φ 3 ∗ Φ 4 ∗ Φ 5) := fun Φ => by
    rw [bigSep_univ_eq_bigSepL [0, 1, 2, 3, 4, 5] (by decide) (by decide) Φ]; rfl
  rw [six, six]
  refine chain m K c (fun h => bigSep Finset.univ fun l => tick h c l) (fun h => bigSep Finset.univ fun l => landed h c l)
    (fun h => bigSep Finset.univ fun l => flight h c l) (fun h => bigSep Finset.univ fun l => ext m c l h) _ _ (phase_first m K c) ?_ (phase_last m K c)
  rintro h a b O rfl rfl rfl
  exact phase_step m K c h

end Phase

end Cert.KernelIdeal.Ring

end
-- ==== Proof.Blocks.lean ====
module

public import proofs.«01_k».proof.Proof.Lanes

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The arrays in blocks

The argument and the result are 32 blocks of 128 rows: two halves, four chunks of each, four sub-blocks of each chunk. A
receive buffer is twelve blocks: three slots of four sub-blocks. -/

/-! ## Rows -/

/-- The rows of a block. -/
def rows (x : Lane × Fin 4) : Finset S4096x1024.Idx := (Rect.unit (s := S4096x1024) ![row x.1.1 x.2 x.1.2, 0] S128x1024.size (row_inb x.1.1 x.2 x.1.2)).set

theorem mem_rows (x : Lane × Fin 4) (i : S4096x1024.Idx) :
    i ∈ rows x ↔ row x.1.1 x.2 x.1.2 ≤ (i 0).val ∧ (i 0).val < row x.1.1 x.2 x.1.2 + 128 := by
  unfold rows; rw [Rect.mem_set_unit]
  constructor
  · intro h; exact h 0
  · intro h a
    match a with
    | ⟨0, _⟩ => exact h
    | ⟨1, _⟩ => exact ⟨Nat.zero_le _, by have := (i 1).isLt; exact lt_of_lt_of_eq this (Nat.zero_add _).symm⟩

/-- The block of a row: its half, its sub-block, its chunk. -/
def blkOf (r : ℕ) : Lane × Fin 4 :=
  ((decide (2048 ≤ r), ⟨(r % 512) / 128, by omega⟩), ⟨(r % 2048) / 512, by omega⟩)

theorem blkOf_row (x : Lane × Fin 4) (r : ℕ) (h : r < 128) : blkOf (row x.1.1 x.2 x.1.2 + r) = x := by
  obtain ⟨⟨b, j⟩, k⟩ := x
  have hj := j.isLt; have hk := k.isLt
  unfold blkOf row
  cases b <;> simp only [cond_true, cond_false]
  · refine Prod.ext (Prod.ext (decide_eq_false (by omega)) (Fin.ext ?_)) (Fin.ext ?_) <;> dsimp only <;> omega
  · refine Prod.ext (Prod.ext (decide_eq_true (by omega)) (Fin.ext ?_)) (Fin.ext ?_) <;> dsimp only <;> omega

theorem row_blkOf (r : ℕ) (h : r < 4096) : row (blkOf r).1.1 (blkOf r).2 (blkOf r).1.2 + r % 128 = r := by
  unfold blkOf row
  by_cases h' : 2048 ≤ r
  · simp only [h', decide_true, cond_true]; omega
  · simp only [h', decide_false, cond_false]; omega

theorem rows_disjoint (x y : Lane × Fin 4) (h : x ≠ y) : Disjoint (rows x) (rows y) := by
  rw [Finset.disjoint_left]
  intro i hx hy
  rw [mem_rows] at hx hy
  refine h ?_
  have ex := blkOf_row x ((i 0).val - row x.1.1 x.2 x.1.2) (by omega)
  have ey := blkOf_row y ((i 0).val - row y.1.1 y.2 y.1.2) (by omega)
  rw [Nat.add_sub_cancel' hx.1] at ex
  rw [Nat.add_sub_cancel' hy.1] at ey
  exact ex.symm.trans ey

theorem rows_cover : Finset.univ.biUnion rows = Finset.univ := by
  refine Finset.eq_univ_of_forall fun i => Finset.mem_biUnion.mpr ⟨blkOf (i 0).val, Finset.mem_univ _, ?_⟩
  rw [mem_rows]
  have := row_blkOf (i 0).val (i 0).isLt
  have : (i 0).val % 128 < 128 := Nat.mod_lt _ (by decide)
  omega

theorem set_xB (b : Bool) (k j : Fin 4) : (xB b k j).view.set = rows ((b, j), k) := View.set_slice_whole _ _
theorem set_oB (b : Bool) (k j : Fin 4) : (oB b k j).view.set = rows ((b, j), k) := View.set_slice_whole _ _

/-! ## Slots -/

/-- The elements of a sub-block of a slot. -/
def slots (x : Fin 4 × Fin 3) : Finset S3x512x1024.Idx := (Rect.unit (s := S3x512x1024) ![x.2.val, 128 * x.1.val, 0] S1x128x1024.size (slot_inb x.2 x.1)).set

theorem mem_slots (x : Fin 4 × Fin 3) (i : S3x512x1024.Idx) :
    i ∈ slots x ↔ (i 0).val = x.2.val ∧ (i 1).val / 128 = x.1.val := by
  unfold slots; rw [Rect.mem_set_unit]
  constructor
  · intro h
    have h0 : x.2.val ≤ (i 0).val ∧ (i 0).val < x.2.val + 1 := h 0
    have h1 : 128 * x.1.val ≤ (i 1).val ∧ (i 1).val < 128 * x.1.val + 128 := h 1
    omega
  · intro h a
    match a with
    | ⟨0, _⟩ => exact (show x.2.val ≤ (i 0).val ∧ (i 0).val < x.2.val + 1 by omega)
    | ⟨1, _⟩ => exact (show 128 * x.1.val ≤ (i 1).val ∧ (i 1).val < 128 * x.1.val + 128 by omega)
    | ⟨2, _⟩ => exact ⟨Nat.zero_le _, by have := (i 2).isLt; exact lt_of_lt_of_eq this (Nat.zero_add _).symm⟩

theorem slots_disjoint (x y : Fin 4 × Fin 3) (h : x ≠ y) : Disjoint (slots x) (slots y) := by
  rw [Finset.disjoint_left]
  intro i hx hy
  rw [mem_slots] at hx hy
  exact h (Prod.ext (Fin.ext (hx.2.symm.trans hy.2)) (Fin.ext (hx.1.symm.trans hy.1)))

theorem slots_cover : Finset.univ.biUnion slots = Finset.univ := by
  refine Finset.eq_univ_of_forall fun i => Finset.mem_biUnion.mpr
    ⟨(⟨(i 1).val / 128, by have : (i 1).val < 512 := (i 1).isLt; omega⟩, ⟨(i 0).val, (i 0).isLt⟩), Finset.mem_univ _, ?_⟩
  rw [mem_slots]; exact ⟨rfl, rfl⟩

theorem set_slot_right (s : Fin 3) (j : Fin 4) : (slotM false s j).view.set = slots (j, s) := (Memref.set_view_squeeze _ _).trans (View.set_slice_whole _ _)
theorem set_slot_left (s : Fin 3) (j : Fin 4) : (slotM true s j).view.set = slots (j, s) := (Memref.set_view_squeeze _ _).trans (View.set_slice_whole _ _)

omit [FloatOps F] in
theorem bigSep_slots (Φ : Fin 3 → sProp 𝕄) : bigSep Finset.univ Φ = iprop(Φ 0 ∗ Φ 1 ∗ Φ 2) := bigSep_univ_eq_bigSepL [0, 1, 2] (by decide) (by decide) Φ

/-- A receive buffer, whole at some contents. -/
def buffer (b : Bool) (c : Dev nD) : sProp 𝕄 := iprop(∃ f : Buf (Elt F) ((rM b).view.loc (c : Thread nD τ)), ((rM b).view.loc (c : Thread nD τ)) ↦{fullShare} f)

omit [FloatOps F] in
/-- It is its slots: -/
theorem buffer_split (b : Bool) (c : Dev nD) : (buffer b c : sProp 𝕄) ⊢ bigSep Finset.univ fun j => rAll (b, j) c := by
  have h : ∀ j, iprop(rP (b, j) 0 c ∗ rP (b, j) 1 c ∗ rP (b, j) 2 c) = (bigSep Finset.univ fun s => rP (b, j) s c : sProp 𝕄) := fun j => (bigSep_slots fun s => rP (b, j) s c).symm
  unfold rAll buffer
  rw [bigSep_congr fun j _ => h j, ← bigSep_univ_prod (fun x : Fin 4 × Fin 3 => (rP (b, x.1) x.2 c : sProp 𝕄))]
  iintro ⟨%f, H⟩
  cases b
  · rw [Ring.pointsTo_blocks (ℓ := (rM false).view.loc (c : Thread nD τ)) slots slots_disjoint slots_cover f]
    refine bigSep_mono fun x _ => ?_
    rw [← set_slot_right x.2 x.1]; exact some_intro (slotM false x.2 x.1) c f
  · rw [Ring.pointsTo_blocks (ℓ := (rM true).view.loc (c : Thread nD τ)) slots slots_disjoint slots_cover f]
    refine bigSep_mono fun x _ => ?_
    rw [← set_slot_left x.2 x.1]; exact some_intro (slotM true x.2 x.1) c f

omit [FloatOps F] in
/-- and back. -/
theorem buffer_join (b : Bool) (c : Dev nD) [Inhabited (Elt F .f32)] : (bigSep Finset.univ fun j => rAll (b, j) c) ⊢ (buffer b c : sProp 𝕄) := by
  have h : ∀ j, iprop(rP (b, j) 0 c ∗ rP (b, j) 1 c ∗ rP (b, j) 2 c) = (bigSep Finset.univ fun s => rP (b, j) s c : sProp 𝕄) := fun j => (bigSep_slots fun s => rP (b, j) s c).symm
  unfold rAll buffer
  rw [bigSep_congr fun j _ => h j, ← bigSep_univ_prod (fun x : Fin 4 × Fin 3 => (rP (b, x.1) x.2 c : sProp 𝕄))]
  cases b
  · refine BIBase.Entails.trans (bigSep_mono fun x _ => ?_) (Ring.pointsTo_blocks_join_exists (ℓ := (rM false).view.loc (c : Thread nD τ)) slots slots_disjoint slots_cover (fun _ => default))
    rw [← set_slot_right x.2 x.1]; exact some_elim (slotM false x.2 x.1) c
  · refine BIBase.Entails.trans (bigSep_mono fun x _ => ?_) (Ring.pointsTo_blocks_join_exists (ℓ := (rM true).view.loc (c : Thread nD τ)) slots slots_disjoint slots_cover (fun _ => default))
    rw [← set_slot_left x.2 x.1]; exact some_elim (slotM true x.2 x.1) c

/-! ## The argument -/

variable (m : (ℓ : Loc nD τ sig) → Buf (Elt F) ℓ)

omit [FloatOps F] in
/-- The four chunks as a direction meets them, from a device. -/
theorem bigSep_chunks (b : Bool) (c : Dev nD) (Φ : Fin 4 → sProp 𝕄) :
    bigSep Finset.univ Φ = iprop(Φ (chunk b 0 c) ∗ Φ (chunk b 1 c) ∗ Φ (chunk b 2 c) ∗ Φ (chunk b 3 c)) := by
  have h : ∀ (b : Bool) (c : Dev nD), [chunk b 0 c, chunk b 1 c, chunk b 2 c, chunk b 3 c].Nodup
      ∧ ∀ k, k ∈ [chunk b 0 c, chunk b 1 c, chunk b 2 c, chunk b 3 c] := by decide +kernel
  rw [bigSep_univ_eq_bigSepL _ (by ext k; simpa using (h b c).2 k) (h b c).1 Φ]; rfl

/-- The argument of device `c` as staged, whole. -/
def argument (c : Dev nD) : sProp 𝕄 := (c : Thread nD τ).loc cc0_stg0_0 ↦{fullShare} xstg m c

/-- It is its blocks, lane by lane. -/
theorem argument_blocks (c : Dev nD) : argument m c = bigSep Finset.univ fun l : Lane => xAll m c l := by
  have h : ∀ l : Lane, xAll m c l = bigSep Finset.univ fun k : Fin 4 => xAt m l.1 k l.2 c := fun l => (bigSep_chunks l.1 c fun k => xAt m l.1 k l.2 c).symm
  unfold argument
  rw [bigSep_congr fun l _ => h l, Ring.pointsTo_blocks (ℓ := (c : Thread nD τ).loc cc0_stg0_0) rows rows_disjoint rows_cover (xstg m c),
    bigSep_univ_prod (fun x : Lane × Fin 4 => ((c : Thread nD τ).loc cc0_stg0_0 ↦[rows x]{fullShare} xstg m c : sProp 𝕄))]
  refine bigSep_congr fun l _ => bigSep_congr fun k _ => ?_
  unfold xAt; rw [set_xB]

/-! ## The result -/

/-- The device whose complete sum chunk `k` of direction `b` is. -/
def owner (b : Bool) (k : Fin 4) : Dev nD := bif b then ⟨(k.val + 1) % 4, Nat.mod_lt _ (by decide)⟩ else ⟨(k.val + 3) % 4, Nat.mod_lt _ (by decide)⟩
theorem owner_chunk : ∀ (b : Bool) (c : Dev nD), owner b (chunk b 3 c) = c := by decide +kernel

/-- The complete sum of a block. -/
def total (x : Lane × Fin 4) : FVec F S128x1024 .f32 := sent m x.1.1 x.1.2 3 (owner x.1.1 x.2)

/-- The result, the same on every device: each row from its block's complete sum. -/
def outAt : (cc0_stg1_0 : Ref sig .tc).ty.Contents (Elt F) := fun i : S4096x1024.Idx =>
  total m (blkOf (i 0).val) (fun | 0 => ⟨(i 0).val % 128, Nat.mod_lt _ (by decide)⟩ | 1 => i 1)

theorem outAt_row (x : Lane × Fin 4) (i : S4096x1024.Idx) (y : S128x1024.Idx) (h0 : (i 0).val = row x.1.1 x.2 x.1.2 + (y 0).val) (h1 : (i 1).val = (y 1).val) :
    outAt m i = total m x y := by
  have hy : (y 0).val < 128 := (y 0).isLt
  have e : blkOf (i 0).val = x := by rw [h0]; exact blkOf_row x _ hy
  unfold outAt; rw [e]
  refine congrArg (total m x) (funext fun a => ?_)
  match a with
  | ⟨0, _⟩ =>
    refine Fin.ext ?_
    show (i 0).val % 128 = (y 0).val
    rw [h0]; unfold row; cases x.1.1 <;> simp only [cond_true, cond_false] <;> omega
  | ⟨1, _⟩ => exact Fin.ext h1

theorem read_outAt (b : Bool) (k j : Fin 4) : (oB b k j).view.read (Elt F) (outAt m) = total m ((b, j), k) :=
  funext fun y => outAt_row m ((b, j), k) ((oB b k j).view.emb y) y (congrArg (row b k j + ·) (Nat.one_mul _))
    ((congrArg (0 + ·) (Nat.one_mul _)).trans (Nat.zero_add _))

/-- What a device holds of the result at the end, from hop 3 on: the complete sum. -/
theorem sent_total (l : Lane) (c : Dev nD) :
    sent m l.1 l.2 3 c = total m (l, chunk l.1 3 c) ∧ sent m l.1 l.2 4 c = total m (l, chunk l.1 4 c)
      ∧ sent m l.1 l.2 5 c = total m (l, chunk l.1 5 c) ∧ sent m l.1 l.2 6 c = total m (l, chunk l.1 6 c) := by
  have h3 : ∀ c, sent m l.1 l.2 3 c = total m (l, chunk l.1 3 c) := fun c => by unfold total; rw [owner_chunk]
  have e4 : ∀ c, chunk l.1 3 (prv l.1 c) = chunk l.1 4 c := fun c => chunk_prv l.1 3 c
  have e5 : ∀ c, chunk l.1 4 (prv l.1 c) = chunk l.1 5 c := fun c => chunk_prv l.1 4 c
  have e6 : ∀ c, chunk l.1 5 (prv l.1 c) = chunk l.1 6 c := fun c => chunk_prv l.1 5 c
  have h4 : ∀ c, sent m l.1 l.2 4 c = total m (l, chunk l.1 4 c) := fun c => by rw [← sent_three, h3, e4]
  have h5 : ∀ c, sent m l.1 l.2 5 c = total m (l, chunk l.1 5 c) := fun c => by rw [← sent_four, h4, e5]
  have h6 : ∀ c, sent m l.1 l.2 6 c = total m (l, chunk l.1 6 c) := fun c => by rw [← sent_five, h5, e6]
  exact ⟨h3 c, h4 c, h5 c, h6 c⟩

omit [FloatOps F] in
theorem bigSep_chunks' (b : Bool) (c : Dev nD) (Φ : Fin 4 → sProp 𝕄) :
    bigSep Finset.univ Φ = iprop(Φ (chunk b 3 c) ∗ Φ (chunk b 4 c) ∗ Φ (chunk b 5 c) ∗ Φ (chunk b 6 c)) := by
  have h : ∀ (b : Bool) (c : Dev nD), [chunk b 3 c, chunk b 4 c, chunk b 5 c, chunk b 6 c].Nodup
      ∧ ∀ k, k ∈ [chunk b 3 c, chunk b 4 c, chunk b 5 c, chunk b 6 c] := by decide +kernel
  rw [bigSep_univ_eq_bigSepL _ (by ext k; simpa using (h b c).2 k) (h b c).1 Φ]; rfl

/-- The result as staged on device `c`, whole at `f`. -/
def result (c : Dev nD) (f : (cc0_stg1_0 : Ref sig .tc).ty.Contents (Elt F)) : sProp 𝕄 := (c : Thread nD τ).loc cc0_stg1_0 ↦{fullShare} f

omit [FloatOps F] in
theorem result_blocks (c : Dev nD) (f : (cc0_stg1_0 : Ref sig .tc).ty.Contents (Elt F)) :
    result c f = (bigSep Finset.univ fun l : Lane => bigSep Finset.univ fun k : Fin 4 =>
      ((oB l.1 k l.2).view.loc (c : Thread nD τ) ↦[(oB l.1 k l.2).view.set]{fullShare} f) : sProp 𝕄) := by
  unfold result
  rw [Ring.pointsTo_blocks (ℓ := (c : Thread nD τ).loc cc0_stg1_0) rows rows_disjoint rows_cover f,
    bigSep_univ_prod (fun x : Lane × Fin 4 => ((c : Thread nD τ).loc cc0_stg1_0 ↦[rows x]{fullShare} f : sProp 𝕄))]
  refine bigSep_congr fun l _ => bigSep_congr fun k _ => ?_
  rw [set_oB]

omit [FloatOps F] in
/-- At the start it is its blocks at some contents; -/
theorem result_split (c : Dev nD) (f : (cc0_stg1_0 : Ref sig .tc).ty.Contents (Elt F)) :
    (result c f : sProp 𝕄) ⊢ bigSep Finset.univ fun l : Lane => iprop(oP c l 0 c ∗ oP c l 1 c ∗ oP c l 2 c ∗ oP c l 3 c) := by
  rw [result_blocks]
  refine bigSep_mono fun l _ => ?_
  rw [bigSep_chunks l.1 c]
  have h : ∀ k, ((oB l.1 k l.2).view.loc (c : Thread nD τ) ↦[(oB l.1 k l.2).view.set]{fullShare} f : sProp 𝕄) ⊢ some' (oB l.1 k l.2) c := fun k => some_intro (oB l.1 k l.2) c f
  unfold oP; exact BIClass.sep_mono (h _) (BIClass.sep_mono (h _) (BIClass.sep_mono (h _) (h _)))

/-- A block that holds its complete sum agrees with the result there. -/
theorem holds_outAt (l : Lane) (k : Fin 4) (c : Dev nD) :
    holds (oB l.1 k l.2) c (total m (l, k)) ⊢ ((oB l.1 k l.2).view.loc (c : Thread nD τ) ↦[(oB l.1 k l.2).view.set]{fullShare} (outAt m) : sProp 𝕄) := by
  unfold holds
  iintro ⟨%f, %hf, H⟩
  have e : ((oB l.1 k l.2).view.loc (c : Thread nD τ) ↦[(oB l.1 k l.2).view.set]{fullShare} f : sProp 𝕄)
      = ((oB l.1 k l.2).view.loc (c : Thread nD τ) ↦[(oB l.1 k l.2).view.set]{fullShare} (outAt m)) := pointsTo_congr fun i hi => by
    obtain ⟨y, rfl⟩ := View.exists_emb_of_mem_set _ hi
    exact congrFun (hf.trans (read_outAt m l.1 k l.2).symm) y
  iapply (Entails.of_eq e); iexact H

/-- at the end it holds the complete sums. -/
theorem result_join (c : Dev nD) :
    (bigSep Finset.univ fun l : Lane => iprop(hP m c l 3 ∗ hP m c l 4 ∗ hP m c l 5 ∗ hP m c l 6)) ⊢ result c (outAt m) := by
  rw [result_blocks]
  refine bigSep_mono fun l _ => ?_
  rw [bigSep_chunks' l.1 c]
  obtain ⟨h3, h4, h5, h6⟩ := sent_total m l c
  unfold hP; rw [h3, h4, h5, h6]
  exact BIClass.sep_mono (holds_outAt m l _ c) (BIClass.sep_mono (holds_outAt m l _ c) (BIClass.sep_mono (holds_outAt m l _ c) (holds_outAt m l _ c)))

end Cert.KernelIdeal.Ring

end
-- ==== Proof.Body.lean ====
module

public import proofs.«01_k».proof.Proof.Blocks

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The body

The handshake, then the hops: from what a device has at the start to its complete result, every semaphore at zero. -/

variable (m : (ℓ : Loc nD τ sig) → Buf (Elt F) ℓ) (K : Dev nD × Option Key → ℕ)

/-! ## The handshake -/

/-- What a device needs for it: its position at its own barrier cell, the tokens of both signals, both credits. -/
def shakeToks (c : Dev nD) : sProp 𝕄 :=
  iprop(atPos ER (barCell c) 0 ∅ 0 ∗ dutyTok ER (barCell (prv false c)) 0 false ∗ dutyTok ER (barCell (prv true c)) 0 true)

/-- A signal to the neighbour that sends in direction `b`, with the gift of that direction. -/
theorem wp_tell (b : Bool) (c d : Dev nD) (hd : d = prv b c) (a : ℤ) (ha : a = 1) (O : CellTallies nD τ sig Unit) (k : PUnit → BProg F) (Q : PUnit → sProp 𝕄) :
    iprop(records m K ∗ dutyTok ER (barCell (prv b c)) 0 b ∗ gift b c ∗ owesW c (O + tallyAt (barCell (prv b c)) () 1))
      ⊢ iprop((owesW c O -∗ WP c (k ⟨⟩) Q) -∗ WP c (.op (.semSignal (Dev.tc d) barrier0 a) k) Q) := by
  subst hd ha
  unfold owesW
  iintro ⟨#Hr, Ht, Hg, %W, Ho⟩ Hk
  ihave #Hi := (records_inv m K (prv b c, none)) $$ Hr
  ihave #Hr0 := (records_reached m K (prv b c, none)) $$ Hr
  iapply (Rounds.wp_signal 𝒱₀ ER (ringRd m) (c : Thread nD τ) none (dst := (prv b c : Thread nD τ)) (κ := K (prv b c, none))
      (d := b) (by have e := duties_bar m (prv b c); exact e ▸ Finset.mem_univ b) ((amount_bar m (prv b c) b).trans (by decide)) () O rfl) $$ [Ht Hg Ho]
  · isplitr; · iexact Hi
    isplitl [Ho]; · iexact Ho
    isplitl [Ht]; · iexact Ht
    isplitl [Hg]
    · iapply (Entails.of_eq ((payload_bar m (prv b c) b).trans (by rw [nbr_prv])).symm); iexact Hg
    iexact Hr0
  iintro Ho
  iapply Hk
  iexists W; iexact Ho

theorem wp_shake (c : Dev nD) (k : PUnit → BProg F) (Q : PUnit → sProp 𝕄) :
    iprop((records m K ∗ levAts L lv) ∗ shakeToks c ∗ cred (tallyAt (barCell c) () 2) ∗ (gift false c ∗ gift true c) ∗ owesW c (owedAll c))
      ⊢ iprop(((semVal (barCell c) 0 ∗ (gift false (nbr false c) ∗ gift true (nbr true c)) ∗ owesW c (owedFrom c 0)) -∗ WP c (k ⟨⟩) Q)
        -∗ WP c (shake c >>= k) Q) := by
  unfold shake shakeToks
  simp only [Prog.bind_op, Prog.bind_ret]
  iintro ⟨⟨#Hr, #Hl⟩, ⟨Ha, Ht1, Ht2⟩, Hc, ⟨Hg1, Hg2⟩, Ho⟩ Hk
  iapply (wp_tell m K false c _ (dev1_eq c) _ (by decide) (owedFrom c 0 + owedBar c)) $$ [Ht1 Hg1 Ho]
  · isplitr; · iexact Hr
    isplitl [Ht1]; · iexact Ht1
    isplitl [Hg1]; · iexact Hg1
    iexact Ho
  iintro Ho
  iapply (wp_tell m K true c _ (dev2_eq c) _ (by decide) (owedFrom c 0)) $$ [Ht2 Hg2 Ho]
  · isplitr; · iexact Hr
    isplitl [Ht2]; · iexact Ht2
    isplitl [Hg2]; · iexact Hg2
    iexact Ho
  iintro Ho
  ihave #Hi := (records_inv m K (c, none)) $$ Hr
  ihave ⟨%W, Ho⟩ := (show owesW c (owedFrom c 0) ⊢ iprop(∃ W : Waits sig Unit, owes (c : Thread nD τ) (owedFrom c 0) W : sProp 𝕄) from .rfl) $$ Ho
  iapply (Rounds.wp_wait_rest_token 𝒱₀ ER (ringRd m) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc Ho Ha]
  · isplitr; · iexact Hi
    isplitl [Hc]; · iexact Hc
    isplitl [Ho]; · iexact Ho
    isplitr; · iapply (mayWait_bar c); iexact Hl
    iexact Ha
  iintro ⟨Ho, Ha, -, Hp⟩
  ihave Hp := (Entails.of_eq (rest_bar m c)) $$ Hp
  imod (Rounds.cell_close ER (ringRd m) (Set.mem_univ (K (c, none))) (fun h => h) (R := 0 + 1) (duties_later m (barCell c))) $$ [Ha] with Hz
  · isplitr; · iexact Hi
    iexact Ha
  iapply Hk
  isplitl [Hz]; · iexact Hz
  isplitl [Hp]; · iexact Hp
  iapply (show iprop(∃ W : Waits sig Unit, owes (c : Thread nD τ) (owedFrom c 0) W : sProp 𝕄) ⊢ owesW c (owedFrom c 0) from .rfl)
  iexists _; iexact Ho

/-! ## Gifts out of the arrays, and into the lanes -/

omit [FloatOps F] in
theorem bigSep_lane (Φ : Lane → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide)]; rfl

omit [FloatOps F] in
theorem sep_assoc4 (A B C D : sProp 𝕄) : iprop(A ∗ B ∗ C ∗ D) = iprop((A ∗ B ∗ C) ∗ D) := by
  have h₁ : iprop(A ∗ B ∗ C ∗ D) ⊢ iprop((A ∗ B ∗ C) ∗ D) := by iintro ⟨H1, H2, H3, H4⟩; iframe
  have h₂ : iprop((A ∗ B ∗ C) ∗ D) ⊢ iprop(A ∗ B ∗ C ∗ D) := by iintro ⟨⟨H1, H2, H3⟩, H4⟩; iframe
  exact Entails.antisymm h₁ h₂

omit [FloatOps F] in
theorem gift_out (b : Bool) (c : Dev nD) :
    (gift b c : sProp 𝕄) = iprop((bigSep Finset.univ fun j => rAll (b, j) c) ∗ bigSep Finset.univ fun j => oP c (b, j) 0 c) := by
  unfold gift; rw [← bigSep_sep']
  refine bigSep_congr fun j _ => ?_
  unfold rAll rP oP
  exact sep_assoc4 _ _ _ _

omit [FloatOps F] in
/-- The gifts of a device: its receive buffers and the first chunk of its result, of both halves. -/
theorem gifts_out (c : Dev nD) :
    iprop((buffer false c ∗ buffer true c) ∗ bigSep Finset.univ fun l : Lane => oP c l 0 c) ⊢ (iprop(gift false c ∗ gift true c) : sProp 𝕄) := by
  rw [gift_out, gift_out, bigSep_lane]
  iintro ⟨⟨H1, H2⟩, H3, H4⟩
  ihave H1 := (buffer_split false c) $$ H1
  ihave H2 := (buffer_split true c) $$ H2
  iframe

omit [FloatOps F] in
theorem gift_in (b : Bool) (c : Dev nD) :
    (gift b (nbr b c) : sProp 𝕄) = bigSep Finset.univ fun j => iprop(rAll (b, j) (nbr b c) ∗ oP c (b, j) 3 (nbr b c)) := by
  unfold gift
  refine bigSep_congr fun j _ => ?_
  rw [chunk_three]
  unfold rAll rP oP
  exact sep_assoc4 _ _ _ _

omit [FloatOps F] in
/-- The gifts received, lane by lane. -/
theorem gifts_in (c : Dev nD) : (iprop(gift false (nbr false c) ∗ gift true (nbr true c)) : sProp 𝕄)
    = bigSep Finset.univ fun l : Lane => iprop(rAll l (nbr l.1 c) ∗ oP c l 3 (nbr l.1 c)) := by
  rw [gift_in, gift_in, bigSep_lane]

/-- Everything a device holds of its lanes once the gifts are in. -/
theorem lanes_start (c : Dev nD) :
    iprop(argument m c ∗ (bigSep Finset.univ fun l : Lane => iprop(oP c l 1 c ∗ oP c l 2 c ∗ oP c l 3 c)) ∗ gift false (nbr false c) ∗ gift true (nbr true c))
      ⊢ bigSep Finset.univ fun l : Lane => ext₀ m c l := by
  rw [gifts_in, argument_blocks, ← bigSep_sep', ← bigSep_sep']
  have h : ∀ l : Lane, iprop(xAll m c l ∗ (oP c l 1 c ∗ oP c l 2 c ∗ oP c l 3 c) ∗ rAll l (nbr l.1 c) ∗ oP c l 3 (nbr l.1 c)) ⊢ ext₀ m c l := fun l => by
    unfold ext₀
    iintro ⟨H1, H2, H3, H4⟩
    iframe
  exact bigSep_mono fun l _ => h l

/-- What it holds at the end: its argument, its buffers, the complete result. -/
theorem lanes_end (c : Dev nD) [Inhabited (Elt F .f32)] :
    (bigSep Finset.univ fun l : Lane => ext₆ m c l) ⊢ iprop(argument m c ∗ (buffer false c ∗ buffer true c) ∗ result c (outAt m)) := by
  unfold ext₆
  rw [bigSep_sep', bigSep_sep', ← argument_blocks, bigSep_lane (fun l => rAll l c)]
  iintro ⟨H1, ⟨H2, H3⟩, H4⟩
  ihave H2 := (buffer_join false c) $$ H2
  ihave H3 := (buffer_join true c) $$ H3
  ihave H4 := (result_join m c) $$ H4
  iframe

/-! ## The whole body -/

/-- What a device needs of the protocol, beside what it owes: the handshake's and every hop's positions, tokens and credits. -/
def tickets (c : Dev nD) : sProp 𝕄 :=
  iprop(shakeToks c ∗ cred (tallyAt (barCell c) () 2) ∗ bigSep Finset.univ fun h : Fin 6 => bigSep Finset.univ fun l : Lane => tick h c l)

/-- Every semaphore of a device at zero. -/
def zeros (c : Dev nD) : sProp 𝕄 :=
  iprop(semVal (barCell c) 0 ∗ bigSep Finset.univ fun h : Fin 6 => bigSep Finset.univ fun l : Lane => landed h c l)

/-- The body at a device `c`, from its argument and any contents elsewhere: the result is `outAt`, the argument unchanged,
    nothing owed and every semaphore at zero. -/
theorem wp_body (c : Dev nD) (f : (cc0_stg1_0 : Ref sig .tc).ty.Contents (Elt F)) (Q : PUnit → sProp 𝕄) :
    iprop((records m K ∗ levAts L lv) ∗ tickets c ∗ (buffer false c ∗ buffer true c) ∗ argument m c ∗ result c f ∗ owesW c (owedAll c))
      ⊢ iprop((zeros c ∗ (buffer false c ∗ buffer true c) ∗ argument m c ∗ result c (outAt m) ∗ owesW c 0 -∗ Q ⟨⟩) -∗ WP c ringBody Q) := by
  haveI : Inhabited (Elt F .f32) := ⟨xstg m c (fun a => ⟨0, by fin_cases a <;> decide⟩)⟩
  have e : WP c (ringBody (F := F)) Q = WP c (shake c >>= fun _ => rounds c >>= fun _ => .ret ⟨⟩) Q := by
    rw [show (rounds c >>= fun _ => (.ret ⟨⟩ : BProg F)) = rounds c from Prog.bind_pure _]
    unfold ringBody rounds WP; rw [wp_deviceId]
  rw [e]
  unfold tickets zeros
  iintro ⟨⟨#Hr, #Hl⟩, ⟨Ht, Hc, Htk⟩, Hb, Ha, Hres, Ho⟩ Hk
  ihave Hres := (result_split c f) $$ Hres
  ihave ⟨H0, Hres⟩ := (Entails.of_eq (bigSep_sep' Finset.univ (fun l : Lane => oP c l 0 c) (fun l : Lane => iprop(oP c l 1 c ∗ oP c l 2 c ∗ oP c l 3 c)))) $$ Hres
  ihave Hg := (gifts_out c) $$ [Hb H0]
  · iframe
  iapply (wp_shake m K c) $$ [Ht Hc Hg Ho]
  · iframe
    isplitr <;> iassumption
  iintro ⟨Hz, Hg, Ho⟩
  ihave He := (lanes_start m c) $$ [Ha Hres Hg]
  · iframe
  iapply (all_phases m K c _ Q) $$ [Htk He Ho]
  · iframe
    isplitr <;> iassumption
  iintro ⟨⟨Hla, He⟩, Ho⟩
  ihave He := (lanes_end m c) $$ He
  iapply (Entails.of_eq (wp_ret _ _ _ _ Q).symm)
  imodintro
  iapply Hk
  icases He with ⟨H1, H2, H3⟩
  iframe

/-! ## The pipeline's obligation -/

/-- What the launch deals a device: the records of all cells, its positions and its tokens. -/
def shared (c : Dev nD) : sProp 𝕄 := iprop(∃ K, records m K ∗ tickets c)

def Φ₀ (c : Dev nD) : sProp 𝕄 := iprop((shared m c ∗ levAts L lv) ∗ buffer false c ∗ buffer true c)
def Φ₁ (c : Dev nD) : sProp 𝕄 := iprop(zeros c ∗ buffer false c ∗ buffer true c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m
  Φ t := match t with
    | ⟨0, _⟩ => Φ₀ m c
    | ⟨_ + 1, _⟩ => Φ₁ c
  q _ := fullShare
  owed t := match t with
    | ⟨0, _⟩ => owedAll c
    | ⟨_ + 1, _⟩ => 0

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop(Φ₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
def after (c : Dev nD) : sProp 𝕄 :=
  iprop(Φ₁ c ∗ (dats m 0 c).owesAt () t0_0.succ ∗ staged c cc0_stg0_0 (xstg m c) ∗ staged c cc0_stg1_0 (outAt m))

/-- The body between what the pipeline hands it and what it takes back. -/
theorem body_sound (c : Dev nD) : before m c ⊢ WP c (bodyAt0 (F := F) t0_0) (fun _ => after m c) := by
  rw [body_eq]
  unfold before Φ₀ shared
  iintro ⟨⟨⟨⟨%K, Hr, Ht⟩, Hl⟩, Hb⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, Ho⟩
  iapply (wp_body m K c g1) $$ [Hr Ht Hl Hb Ho Hx Hout]
  · isplitl [Hr Hl]; · iframe
    isplitl [Ht]; · iexact Ht
    isplitl [Hb]; · iexact Hb
    isplitl [Hx]
    · iapply (show ((c : Thread nD τ).loc cc0_stg0_0 ↦{fullShare} xstg m c : sProp 𝕄) ⊢ argument m c from .rfl); iexact Hx
    isplitl [Hout]
    · iapply (show ((c : Thread nD τ).loc cc0_stg1_0 ↦{fullShare} g1 : sProp 𝕄) ⊢ result c g1 from .rfl); iexact Hout
    iapply (show iprop(∃ W : Waits sig Unit, owes (c : Thread nD τ) ((dats m 0 c).owed t0_0.castSucc) W : sProp 𝕄) ⊢ owesW c (owedAll c) from .rfl)
    iexists W; iexact Ho
  iintro ⟨Hz, Hb, Hx, Hout, Ho⟩
  unfold after Φ₁ Dat.owesAt Pipeline.owesWithin
  isplitl [Hz Hb]; · iframe
  isplitl [Ho]
  · ihave ⟨%W', Ho⟩ := (show owesW c 0 ⊢ iprop(∃ W : Waits sig Unit, owes (c : Thread nD τ) ((dats m 0 c).owed t0_0.succ) W : sProp 𝕄) from .rfl) $$ Ho
    iexists W'
    isplitr; · ipureintro; exact fun _ _ => Or.inl trivial
    iexact Ho
  isplitl [Hx]
  · iexists _; isplitr; · (ipureintro; rfl)
    iapply (show argument m c ⊢ ((c : Thread nD τ).loc cc0_stg0_0 ↦{fullShare} xstg m c : sProp 𝕄) from .rfl); iexact Hx
  iexists _; isplitr; · (ipureintro; rfl)
  iapply (show result c (outAt m) ⊢ ((c : Thread nD τ).loc cc0_stg1_0 ↦{fullShare} outAt m : sProp 𝕄) from .rfl); iexact Hout

set_option maxRecDepth 8000 in
/-- The pipeline's obligation of the body. -/
theorem body_obligation (c : Dev nD) : BodyObligation (dats (F := F) m 0 c) (defs₀ (F := F)) 𝒱₀ () Set.univ := fun t => by
  rw [fin_N0 t]
  rw [bigSep_W0, bigSep_W0]
  simp only [owns_staged]
  have h := body_sound m c
  unfold before after WP at h
  rw [show (dats m 0 c).Φ t0_0.castSucc = Φ₀ m c from rfl, show (dats m 0 c).Φ t0_0.succ = Φ₁ c from rfl,
    show (dats m 0 c).after 0 t0_0 = xstg m c from rfl, show (dats m 0 c).after 1 t0_0 = outAt m from rfl]
  rw [show defs₀ (F := F) Proc.tc 0 (t0_0, cfg0.slots t0_0) = bodyAt0 (F := F) t0_0 from rfl]
  exact h.trans (Entails.of_eq (by congr 1))

end Cert.KernelIdeal.Ring

end
-- ==== Proof.Deal.lean ====
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # Dealing out the protocol

At the launch every cell is created with its tokens; each token goes to the device that pays its duty, each credit to the
device that waits for it. -/

variable (m : (ℓ : Loc nD τ sig) → Buf (Elt F) ℓ)

omit [FloatOps F] in
theorem kcell_injective : Function.Injective (kcell : Dev nD × Option Key → GSem nD τ sig) := by
  rintro ⟨c, k⟩ ⟨c', k'⟩ h
  have h1 : c = c' := by
    have := congrArg (fun g : GSem nD τ sig => g.1.1) h
    cases k <;> cases k' <;> exact this
  subst h1
  cases k with
  | none => cases k' with
    | none => rfl
    | some y => exact absurd (congrArg Prod.snd h).symm (code_ne_bar y)
  | some x => cases k' with
    | none => exact absurd (congrArg Prod.snd h) (code_ne_bar x)
    | some y => rw [code_injective (congrArg Prod.snd h)]

def ringCells : Finset (GSem nD τ sig) := Finset.univ.map ⟨kcell, kcell_injective⟩

/-- A token by the cell it is of: two for the barrier, one for every other cell. -/
abbrev tokOf (x : Dev nD × (Bool ⊕ Key)) : GSem nD τ sig × ℕ × Bool := match x.2 with
  | .inl b => (barCell x.1, 0, b)
  | .inr k => (cell k x.1, 0, false)

omit [FloatOps F] in
theorem tokOf_injective : Function.Injective (tokOf : Dev nD × (Bool ⊕ Key) → GSem nD τ sig × ℕ × Bool) := by
  rintro ⟨c, k⟩ ⟨c', k'⟩ h
  have h1 : c = c' := by
    have := congrArg (fun g : GSem nD τ sig × ℕ × Bool => g.1.1.1) h
    cases k <;> cases k' <;> exact this
  subst h1
  cases k with
  | inl b => cases k' with
    | inl b' => have e : b = b' := congrArg (fun g : GSem nD τ sig × ℕ × Bool => g.2.2) h; rw [e]
    | inr y => exact absurd (congrArg (fun g : GSem nD τ sig × ℕ × Bool => g.1.2) h).symm (code_ne_bar y)
  | inr x => cases k' with
    | inl b' => exact absurd (congrArg (fun g : GSem nD τ sig × ℕ × Bool => g.1.2) h) (code_ne_bar x)
    | inr y => rw [code_injective (congrArg (fun g : GSem nD τ sig × ℕ × Bool => g.1.2) h)]

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- Over the departures and arrivals: first the one, then the other. -/
theorem bigSep_key (Φ : Key → sProp 𝕄) :
    bigSep Finset.univ Φ = iprop((bigSep Finset.univ fun x : Hop => Φ (false, x)) ∗ bigSep Finset.univ fun x : Hop => Φ (true, x)) := by
  rw [bigSep_univ_prod, bigSep_bool]

omit [FloatOps F] in
theorem bigSep_cells (Φ : Option Key → sProp 𝕄) : bigSep Finset.univ Φ = iprop((bigSep Finset.univ fun x : Key => Φ (some x)) ∗ Φ none) := by
  rw [bigSep_univ_equiv (Equiv.optionEquivSumPUnit.{0} Key).symm Φ, bigSep_univ_sum]
  congr 1
  exact bigSep_univ_eq_bigSepL [PUnit.unit] (by decide) (by decide) _

/-- The tokens of a device's own cells. -/
def toks (c : Dev nD) : sProp 𝕄 :=
  iprop((dutyTok ER (barCell c) 0 false ∗ dutyTok ER (barCell c) 0 true)
    ∗ (bigSep Finset.univ fun x : Hop => dutyTok ER (cell (false, x) c) 0 false) ∗ bigSep Finset.univ fun x : Hop => dutyTok ER (cell (true, x) c) 0 false)

/-- A device's positions at its own cells. -/
def places (c : Dev nD) : sProp 𝕄 := bigSep Finset.univ fun k : Option Key => atPos ER (kcell (c, k)) 0 ∅ 0

/-- What the launch deals a device. -/
def deal (c : Dev nD) : sProp 𝕄 :=
  iprop((bigSep Finset.univ fun k : Option Key => roundState ER (ringRd m) (kcell (c, k)) 0)
    ∗ (places c ∗ bigSep Finset.univ fun k : Option Key => reached ER (kcell (c, k)) 0) ∗ toks c)

theorem fund_ring : BI.own (ER (initOf ringCells ringToks)) ⊢ (|==> bigSep Finset.univ (deal m) : sProp 𝕄) := by
  have hX (Φ : GSem nD τ sig → sProp 𝕄) : bigSep ringCells Φ = bigSep Finset.univ fun c : Dev nD => bigSep Finset.univ fun k : Option Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_bool, bigSep_key]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold deal places; simp only [bigSep_sep']
  iframe

omit [FloatOps F] in
theorem unscopedSems0_eq (c : Dev nD) : (unscopedSems0 c : sProp 𝕄) = semVal (barCell c) 0 := by
  unfold unscopedSems0; rw [bigSep_eq_bigSepL_of_eq [SemLoc.reg barrier0] (by decide) (by decide)]; rfl

/-- Every cell of a device is opened at zero. -/
theorem core_alloc (c : Dev nD) :
    iprop(Pipeline.ownSems0 (Ix := Unit) (Name := ℕ) (U := UU) (Lvl := ℕ) (Val := Elt F) (τ := τ) code c ∗ unscopedSems0 c ∗ deal m c)
      ⊢ |={Set.univ}=> iprop((bigSep Finset.univ fun k => iprop(∃ κ : ℕ, cellInv ER (ringRd m) κ (kcell (c, k))))
          ∗ (places c ∗ bigSep Finset.univ fun k : Option Key => reached ER (kcell (c, k)) 0) ∗ toks c) := by
  have hv : iprop(Pipeline.ownSems0 (Ix := Unit) (Name := ℕ) (U := UU) (Lvl := ℕ) (Val := Elt F) (τ := τ) code c ∗ unscopedSems0 c)
      ⊢ (bigSep Finset.univ fun k : Option Key => semVal (kcell (c, k)) 0 : sProp 𝕄) := by
    rw [unscopedSems0_eq, bigSep_cells]; exact .rfl
  unfold deal
  iintro ⟨Hos, Hus, Hst, Hat, Htok⟩
  ihave Hv := hv $$ [Hos Hus]
  · iframe
  imod (show iprop((bigSep Finset.univ fun k : Option Key => semVal (kcell (c, k)) 0) ∗ bigSep Finset.univ fun k : Option Key => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · iframe
  imodintro
  iframe

/-! ## Around the ring -/

/-- The tokens a device pays with. -/
def payToks (c : Dev nD) : sProp 𝕄 :=
  iprop((dutyTok ER (barCell (prv false c)) 0 false ∗ dutyTok ER (barCell (prv true c)) 0 true)
    ∗ (bigSep Finset.univ fun x : Hop => dutyTok ER (cell (false, x) c) 0 false) ∗ bigSep Finset.univ fun x : Hop => dutyTok ER (cell (true, x) (nbr x.2.1 c)) 0 false)

/-- Every arrival, met at the device that sends it. -/
def senders : Dev nD × Hop ≃ Dev nD × Hop where
  toFun p := (nbr p.2.2.1 p.1, p.2)
  invFun p := (prv p.2.2.1 p.1, p.2)
  left_inv p := by simp only [prv_nbr]
  right_inv p := by simp only [nbr_prv]

omit [FloatOps F] in
theorem toks_around : (bigSep Finset.univ fun c : Dev nD => (toks c : sProp 𝕄)) = bigSep Finset.univ fun c : Dev nD => payToks c := by
  unfold toks payToks
  simp only [bigSep_sep']
  rw [bigSep_univ_equiv (ring false).symm (fun c : Dev nD => (dutyTok ER (barCell c) 0 false : sProp 𝕄)),
    bigSep_univ_equiv (ring true).symm (fun c : Dev nD => (dutyTok ER (barCell c) 0 true : sProp 𝕄)),
    ← bigSep_univ_prod (fun p : Dev nD × Hop => (dutyTok ER (cell (true, p.2) p.1) 0 false : sProp 𝕄)),
    ← bigSep_univ_prod (fun p : Dev nD × Hop => (dutyTok ER (cell (true, p.2) (nbr p.2.2.1 p.1)) 0 false : sProp 𝕄)),
    bigSep_univ_equiv senders (fun p : Dev nD × Hop => (dutyTok ER (cell (true, p.2) p.1) 0 false : sProp 𝕄))]
  rfl

/-- A device's share of the protocol, its credits apart. -/
def seat (c : Dev nD) : sProp 𝕄 := iprop(∃ K, records m K ∗ places c ∗ payToks c)

theorem regroup :
    (bigSep Finset.univ fun c : Dev nD => iprop((bigSep Finset.univ fun k => iprop(∃ κ : ℕ, cellInv ER (ringRd m) κ (kcell (c, k))))
          ∗ (places c ∗ bigSep Finset.univ fun k : Option Key => reached ER (kcell (c, k)) 0) ∗ toks c) : sProp 𝕄)
      ⊢ bigSep Finset.univ (seat m) := by
  simp only [bigSep_sep']
  rw [toks_around, ← bigSep_univ_prod (fun ck : Dev nD × Option Key => iprop(∃ κ : ℕ, cellInv ER (ringRd m) κ (kcell ck))),
    ← bigSep_univ_prod (fun ck : Dev nD × Option Key => (reached ER (kcell ck) 0 : sProp 𝕄))]
  iintro ⟨HI, ⟨Hat, #HR⟩, Htok⟩
  ihave HK := (BI.bigSep_exists_pi Finset.univ (fun (ck : Dev nD × Option Key) (κ : ℕ) => (cellInv ER (ringRd m) κ (kcell ck) : sProp 𝕄))) $$ HI
  icases HK with ⟨%K, #HI⟩
  have h : iprop(records m K ∗ bigSep Finset.univ fun c : Dev nD => iprop(places c ∗ payToks c)) ⊢ bigSep Finset.univ (seat m) := by
    refine (sep_mono_left (BI.bigSep_of_persistent (Finset.univ : Finset (Dev nD)) (records m K))).trans ?_
    rw [← bigSep_sep']
    have h1 : ∀ c : Dev nD, iprop(records m K ∗ places c ∗ payToks c) ⊢ seat m c := fun c => by
      unfold seat; iintro H; iexists K; iexact H
    exact bigSep_mono fun c _ => h1 c
  iapply h
  isplitr
  · unfold records; isplitl; · iexact HI
    iexact HR
  · iapply (Entails.of_eq (bigSep_sep' Finset.univ (fun c : Dev nD => (places c : sProp 𝕄)) (fun c => payToks c)).symm)
    iframe

theorem glob : (bigSep Finset.univ fun c => iprop(Pipeline.ownSems0 (Ix := Unit) (Name := ℕ) (U := UU) (Lvl := ℕ) (Val := Elt F) (τ := τ) code c ∗ unscopedSems0 c ∗ deal m c) : sProp 𝕄)
    ⊢ |={Set.univ}=> bigSep Finset.univ (seat m) :=
  ((bigSep_mono fun c _ => core_alloc m c).trans (bigSep_fupd _ _)).trans (BI.fupd_mono (regroup m))

/-! ## The credits -/

omit [FloatOps F] in
theorem bar_inj {a b : Dev nD} (h : barCell a = barCell b) : a = b := Fin.ext (congrArg (fun g : GSem nD τ sig => g.1.1.val) h)
omit [FloatOps F] in
theorem cell_inj {x y : Key} {a b : Dev nD} (h : cell x a = cell y b) : x = y ∧ a = b :=
  ⟨code_injective (congrArg Prod.snd h), Fin.ext (congrArg (fun g : GSem nD τ sig => g.1.1.val) h)⟩

omit [FloatOps F] in
theorem owedFrom_bar (d c : Dev nD) : owedFrom d 0 (barCell c) () = 0 := by
  by_contra h
  obtain ⟨h', l, -, e⟩ := owedFrom_pos (Nat.pos_iff_ne_zero.mpr h)
  exact code_ne_bar _ (congrArg Prod.snd e).symm

omit [FloatOps F] in
/-- Each neighbour owes a device's barrier one unit; -/
theorem owed_bar (d c : Dev nD) : owedAll d (barCell c) () = (if d = nbr true c then 1 else 0) + (if d = nbr false c then 1 else 0) := by
  have h : ∀ b : Bool, (if barCell c = barCell (prv b d) ∧ () = () then 1 else 0 : ℕ) = if d = nbr b c then 1 else 0 := fun b => by
    by_cases e : d = nbr b c
    · subst e; rw [prv_nbr, if_pos ⟨rfl, rfl⟩, if_pos rfl]
    · rw [if_neg fun h' => e (by rw [bar_inj h'.1, nbr_prv]), if_neg e]
  unfold owedAll owedBar
  rw [Pi.add_apply, Finsupp.add_apply, Pi.add_apply, Finsupp.add_apply, owedFrom_bar, Nat.zero_add, tallyAt_apply, tallyAt_apply, h, h]

omit [FloatOps F] in
/-- the device before it owes each arrival. -/
theorem owed_arrival (d c : Dev nD) (x : Hop) : owedAll d (cell (true, x) c) () = if d = prv x.2.1 c then N else 0 := by
  have hb : ∀ e : Dev nD, cell (true, x) c ≠ barCell e := fun e h => code_ne_bar _ (congrArg Prod.snd h)
  unfold owedAll owedBar owedFrom
  rw [Pi.add_apply, Finsupp.add_apply, Pi.add_apply, Finsupp.add_apply, tallyAt_ne_cell (hb _), tallyAt_ne_cell (hb _), Finsupp.zero_apply, Nat.add_zero, Nat.add_zero,
    Finset.sum_apply, Finsupp.finset_sum_apply]
  simp only [Nat.zero_le, if_true]
  rw [Finset.sum_eq_single x]
  · unfold tl; rw [tallyAt_apply]
    by_cases e : d = prv x.2.1 c
    · subst e; rw [nbr_prv, if_pos ⟨rfl, rfl⟩, if_pos rfl]
    · rw [if_neg fun h' => e (by rw [(cell_inj h'.1).2, prv_nbr]), if_neg e]
  · intro y _ hy
    unfold tl; rw [tallyAt_apply, if_neg fun h' => hy (congrArg Prod.snd (cell_inj h'.1).1).symm]
  · exact fun h' => absurd (Finset.mem_univ _) h'

omit [FloatOps F] in
theorem launch_bar (c : Dev nD) :
    tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nbr true c) fun _ => 1, Finset.sum_ite_eq' Finset.univ (nbr false c) fun _ => 1, if_pos (Finset.mem_univ _), if_pos (Finset.mem_univ _)]

omit [FloatOps F] in
theorem launch_arrival (c : Dev nD) (x : Hop) :
    tallyOn (cell (true, x) c) (launchCredit (Pipeline.owing owedAll) 0 (cell (true, x) c)) = (tallyAt (cell (true, x) c) () N : CellTallies nD τ sig Unit) := by
  unfold tallyAt; refine congrArg _ (Finsupp.ext fun u => ?_); cases u
  rw [Pipeline.launchCredit_owing, Finsupp.single_eq_same, Finset.sum_congr rfl fun d _ => owed_arrival d c x, Finset.sum_ite_eq' Finset.univ (prv x.2.1 c) fun _ => N,
    if_pos (Finset.mem_univ _)]

/-- The semaphore of an arrival. -/
def arrivals : Hop ↪ SemLoc sig := ⟨fun x => code (true, x), fun _ _ h => congrArg Prod.snd (code_injective h)⟩

omit [FloatOps F] in
/-- A device's credits: its barrier's and every arrival's. -/
theorem creds (c : Dev nD) :
    (Pipeline.launchCred owedAll c : sProp 𝕄) ⊢ iprop(cred (tallyAt (barCell c) () 2) ∗ bigSep Finset.univ fun x : Hop => cred (tallyAt (cell (true, x) c) () N)) := by
  unfold Pipeline.launchCred
  rw [bigSep_univ_at _ (SemLoc.reg barrier0), launch_bar]
  refine sep_mono_right ((bigSep_subset (t := Finset.univ.map arrivals) fun s hs => ?_).trans ?_)
  · obtain ⟨x, -, rfl⟩ := Finset.mem_map.mp hs
    exact Finset.mem_erase.mpr ⟨code_ne_bar _, Finset.mem_univ _⟩
  · rw [bigSep_map]
    exact Entails.of_eq (bigSep_congr fun x _ => congrArg cred (launch_arrival c x))

omit [FloatOps F] in
/-- Positions, tokens and credits, hop by hop. -/
theorem tickets_intro (c : Dev nD) : iprop((places c ∗ payToks c) ∗ cred (tallyAt (barCell c) () 2) ∗ bigSep Finset.univ fun x : Hop => cred (tallyAt (cell (true, x) c) () N))
    ⊢ (tickets c : sProp 𝕄) := by
  have h : (bigSep Finset.univ fun x : Hop => iprop(dutyTok ER (cell (false, x) c) 0 false ∗ dutyTok ER (cell (true, x) (nbr x.2.1 c)) 0 false
      ∗ atPos ER (cell (false, x) c) 0 ∅ 0 ∗ atPos ER (cell (true, x) c) 0 ∅ 0 ∗ cred (tallyAt (cell (true, x) c) () N)) : sProp 𝕄)
      = bigSep Finset.univ fun h : Fin 6 => bigSep Finset.univ fun l : Lane => tick h c l := by
    rw [bigSep_univ_prod]; rfl
  unfold tickets shakeToks places payToks
  rw [bigSep_cells, bigSep_key, ← h]
  simp only [bigSep_sep']
  iintro ⟨⟨⟨⟨H1, H2⟩, H3⟩, ⟨H4, H5⟩, H6, H7⟩, H8, H9⟩
  iframe

end Cert.KernelIdeal.Ring

end
-- ==== Proof.Launch.lean ====
module

public import proofs.«01_k».proof.Proof.Deal
public import Idealize.ShloMosaic.Lib.Pipeline.Launch
public import Idealize.ShloMosaic.Lib.Pipeline.CollectiveSegs
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The run

All four devices together, from any memory: every run ends, each device's arrays hold what the pipeline leaves in them, and
every semaphore is at zero. -/

variable (m : (ℓ : Loc nD τ sig) → Buf (Elt F) ℓ) (ρ : Dev nD → PrngReg)

theorem ownSemFacts : Pipeline.OwnSemFacts cfg0.spec code where
  isScoped := by decide +kernel
  inj := code_injective
  disj := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ seat m c)
      ⊢ |={Set.univ}=> iprop((shared m c ∗ levAts L lv) ∗ emp) := by
  unfold seat shared
  iintro ⟨-, Hl, Hc, -, ⟨%K, Hr, Hp⟩⟩
  ihave Hc := (creds c) $$ Hc
  ihave Ht := (tickets_intro c) $$ [Hp Hc]
  · iframe
  imodintro
  isplitl
  · isplitr [Hl]
    · iexists K; iframe
    iexact Hl
  · iempintro

theorem phi0_intro (c : Dev nD) :
    iprop((shared m c ∗ levAts L lv) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hb⟩
  isplitl [Hs]; · iexact Hs
  iexact Hb

omit [FloatOps F] in
theorem zeros_split (c : Dev nD) : (zeros c : sProp 𝕄) ⊢ iprop(unscopedSems0 c ∗ Pipeline.ownSems0 code c) := by
  have h : (bigSep Finset.univ fun h : Fin 6 => bigSep Finset.univ fun l : Lane => (landed h c l : sProp 𝕄)) = Pipeline.ownSems0 code c := by
    unfold Pipeline.ownSems0
    rw [bigSep_key, ← bigSep_sep', bigSep_univ_prod]; rfl
  unfold zeros; rw [unscopedSems0_eq, h]

theorem phi1_exit (c : Dev nD) :
    (dats m 0 c).Φ (Fin.last cfg0.N) ⊢ iprop(unscopedSems0 c ∗ Pipeline.ownSems0 code c ∗ Pipeline.scopedRest cfg0.spec c) := by
  rw [show (dats m 0 c).Φ (Fin.last cfg0.N) = Φ₁ c from rfl, scopedRest0_eq]
  unfold Φ₁
  iintro ⟨Hz, Hb⟩
  ihave ⟨Hu, Ho⟩ := (zeros_split c) $$ Hz
  isplitl [Hu]; · iexact Hu
  isplitl [Ho]; · iexact Ho
  iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m 0 c).arrAt w cfg0.N

set_option maxRecDepth 8000 in
/-- Every run of the four devices ends; each window's array then holds `finalA`, and every semaphore is at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := deal m) (G' := seat m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(shared m c ∗ levAts L lv)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_argument (c : Dev nD) : finalA m c (0 : Fin 2) = m ((c : Thread nD τ).loc main_arg0) :=
  (dats (F := F) m 0 c).arrAt_in (0 : Fin 2) rfl _

end Cert.KernelIdeal.Ring

end
-- ==== Proof.Value.lean ====
module

public import proofs.«01_k».proof.Proof.Launch
public import Idealize.ShloMosaic.Lib.Pipeline.ValueKit
public import Idealize.ShloMosaic.PureOps.Ideal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # What the result holds

Element by element: the sum of the four devices' arguments, in the order of the ring that the element's row runs through. -/

variable (m : (ℓ : Loc nD τ sig) → Buf (Elt F) ℓ)

/-- The staged argument is the argument. -/
theorem xstg_apply (c : Dev nD) (i : S4096x1024.Idx) : xstg m c i = m ((c : Thread nD τ).loc main_arg0) i := by
  have hz : (fun a => (fun _ => 0 : Fin 2 → ℕ) a * S4096x1024.size a) = fun _ => 0 := funext fun a => Nat.zero_mul _
  exact congrFun (Memref.read_access_unit_zero (Elt F) main_arg0 hz _ _) i

/-- The array written back is what the body leaves. -/
theorem finalA_result (c : Dev nD) : finalA m c (1 : Fin 2) = outAt m := by
  unfold finalA
  refine (dats m 0 c).arrAt_eq_of_after_last 1 t0_0 (by decide +kernel) _ fun j => ?_
  blk_simp; rfl

/-- A sub-block of the argument, at an element. -/
theorem xv_apply (b : Bool) (k j : Fin 4) (c : Dev nD) (i : S4096x1024.Idx) (y : S128x1024.Idx)
    (h0 : (i 0).val = row b k j + (y 0).val) (h1 : (i 1).val = (y 1).val) : xv m b k j c y = m ((c : Thread nD τ).loc main_arg0) i := by
  have e : (xB b k j).view.emb y = i := funext fun a => match a with
    | 0 => Fin.ext ((congrArg (row b k j + ·) (Nat.one_mul _)).trans h0.symm)
    | 1 => Fin.ext (((congrArg (0 + ·) (Nat.one_mul _)).trans (Nat.zero_add _)).trans h1.symm)
  exact (congrArg (xstg m c) e).trans (xstg_apply m c i)

/-- The complete sum of a block: its owner's sub-block, and those of the three devices before it. -/
theorem total_eq (b : Bool) (j k : Fin 4) : total m ((b, j), k) = addf (xv m b k j (owner b k)) (addf (xv m b k j (prv b (owner b k)))
    (addf (xv m b k j (prv b (prv b (owner b k)))) (xv m b k j (prv b (prv b (prv b (owner b k))))))) := by
  have h3 : ∀ (b : Bool) (k : Fin 4), chunk b 3 (owner b k) = k ∧ chunk b 2 (prv b (owner b k)) = k
      ∧ chunk b 1 (prv b (prv b (owner b k))) = k ∧ chunk b 0 (prv b (prv b (prv b (owner b k)))) = k := by decide +kernel
  obtain ⟨e3, e2, e1, e0⟩ := h3 b k
  unfold total
  simp only [sent]
  rw [if_pos (by decide), if_pos (by decide), if_pos (by decide), e3, e2, e1, e0]

/-- Every element of the result, by the direction of its row and the device its sum ends on. -/
theorem outAt_apply (i : S4096x1024.Idx) : ∃ (b : Bool) (e : Dev nD), outAt m i =
    FloatOps.addf (m ((e : Thread nD τ).loc main_arg0) i) (FloatOps.addf (m ((prv b e : Thread nD τ).loc main_arg0) i)
      (FloatOps.addf (m ((prv b (prv b e) : Thread nD τ).loc main_arg0) i) (m ((prv b (prv b (prv b e)) : Thread nD τ).loc main_arg0) i))) := by
  obtain ⟨⟨⟨b, j⟩, k⟩, hx⟩ : ∃ x, x = blkOf (i 0).val := ⟨_, rfl⟩
  have h0 : (i 0).val = row b k j + (i 0).val % 128 := by
    have := row_blkOf (i 0).val (i 0).isLt
    rw [← hx] at this; exact this.symm
  have e := outAt_row m ((b, j), k) i (fun | 0 => ⟨(i 0).val % 128, Nat.mod_lt _ (by decide)⟩ | 1 => i 1) h0 rfl
  rw [total_eq] at e
  refine ⟨b, owner b k, e.trans ?_⟩
  have hv : ∀ d : Dev nD, xv m b k j d (fun | 0 => ⟨(i 0).val % 128, Nat.mod_lt _ (by decide)⟩ | 1 => i 1) = m ((d : Thread nD τ).loc main_arg0) i :=
    fun d => xv_apply m b k j d i _ h0 rfl
  unfold addf
  dsimp only
  rw [hv, hv, hv, hv]

/-- Four devices once around the ring, from any of them, in either direction. -/
theorem sum_ring (f : Dev nD → EReal) : ∀ (b : Bool) (e : Dev nD), f e + (f (prv b e) + (f (prv b (prv b e)) + f (prv b (prv b (prv b e))))) = ∑ d : Dev nD, f d := by
  have hs : (∑ d : Dev nD, f d) = f 0 + f 1 + f 2 + f 3 := Fin.sum_univ_four f
  have h : ∀ (b : Bool) (e : Dev nD), (([e, prv b e, prv b (prv b e), prv b (prv b (prv b e))] : List (Dev nD)).Perm [0, 1, 2, 3]) := by decide +kernel
  intro b e
  have := ((h b e).map f).sum_eq
  simp only [List.map_cons, List.map_nil, List.sum_cons, List.sum_nil, add_zero] at this
  rw [hs, this]; simp only [add_assoc]

/-- Over the reals every element is the sum over all devices. -/
theorem outAt_sum (m : (ℓ : Loc nD τ sig) → Buf (Elt Ideal) ℓ) (i : S4096x1024.Idx) :
    outAt (F := Ideal) m i = (∑ d : Dev nD, (m ((d : Thread nD τ).loc main_arg0) i : EReal) : EReal) := by
  obtain ⟨b, e, h⟩ := outAt_apply (F := Ideal) m i
  exact h.trans (sum_ring (fun d => (m ((d : Thread nD τ).loc main_arg0) i : EReal)) b e)

end Cert.KernelIdeal.Ring

end
-- ==== Proof.Reference.lean ====
module

public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.Lib.Pointwise.Reduce
public import Idealize.ShloMosaic.PureOps.Ideal

@[expose] public section

noncomputable section

namespace Cert.ReferenceIdeal.Sum

open Cert.ReferenceIdeal Cert.ReferenceIdeal.Gen Idealize.ShloMosaic Idealize.ShloMosaic.TcCoe Idealize.SL.Sem Idealize.ShloMosaic.ValueIdx

/-! # What the reference computes

The argument, cut into four blocks of rows, and the blocks added up. -/

/-- The reference's result as a function of its argument. -/
def value (x : S16384x1024.Idx → EReal) : S4096x1024.Idx → EReal :=
  Host.reduceAdd (F := Ideal) (φ := .f32) (shapeCast S4x4096x1024 x shapeCasts_S16384x1024_S4x4096x1024) (constant (F := Ideal) S_ .f32 0x00000000#32)
    reducesTo_S4x4096x1024_S4096x1024_d0 h_S_

/-- Element by element it is the sum over the four blocks. -/
theorem value_apply (x : S16384x1024.Idx → EReal) (i : S4096x1024.Idx) :
    value x i = ∑ d : Fin 4, Layout.block ⟨2, ![4096, 1024]⟩ ⟨2, ![16384, 1024]⟩ 0 4 d x (by decide) i := by
  have h0 : (constant (F := Ideal) S_ .f32 0x00000000#32) (Shape.Idx.first h_S_) = (0 : EReal) := Ideal.ofBits_zero_f32
  have h1 : value x i = Ideal.hostReduceAdd reducesTo_S4x4096x1024_S4096x1024_d0 (shapeCast S4x4096x1024 x shapeCasts_S16384x1024_S4x4096x1024)
      ((constant (F := Ideal) S_ .f32 0x00000000#32) (Shape.Idx.first h_S_)) i := rfl
  rw [h1, h0, Ideal.hostReduceAdd_r3_a0, zero_add]
  refine Finset.sum_congr rfl fun d _ => ?_
  refine shapeCast_apply x _ _ _ ?_
  rw [Shape.rowMajor_val_two, Shape.rowMajor_val_three]
  rfl

end Cert.ReferenceIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.Kernel

/-- The kernel's run in terms of its arrays, for any float values: the argument unchanged, the result `outAt`. -/
theorem run_kernel {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_v1) = Cert.KernelIdeal.Ring.outAt m
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => ⟨(h.1 c 1).trans (Cert.KernelIdeal.Ring.finalA_result m c),
    (h.1 c 0).trans (Cert.KernelIdeal.Ring.finalA_argument m c)⟩, h.2⟩) (Cert.KernelIdeal.Ring.run_main m g)

/-- The frame of that run by itself. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (run_kernel m g)

/-- The idealized kernel's frame. -/
theorem frame_kernelIdeal : Cert.quiescent_KernelIdeal := fun m g _ => frame_any (F := Ideal) m g

/-- The kernel as printed and its idealization have the same body. -/
theorem same_body : Cert.Kernel.cc0_body (F := Bits) = Cert.KernelIdeal.cc0_body (F := Bits) := rfl

/-- So they have the same table of bodies. -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_body (F := Bits) _ _ _ _ _ _ _ _ _ _ _ _ _ _ _ _ = _
    rw [same_body]
  | ⟨_ + 1, h⟩, _ => exact absurd h (Nat.not_lt.2 (Nat.le_add_left _ _))

/-- And the same table of functions. -/
theorem same_defs : Cert.Kernel.defs (F := Bits) = Cert.KernelIdeal.defs (F := Bits) :=
  congrArg (Pipeline.defs (Cert.KernelIdeal.pcfgs (F := Bits))) same_defs₀

/-- The frame of the kernel as printed is the frame above at the machine's floats. -/
theorem frame_kernel : Cert.quiescent_Kernel := fun m g _ => by
  rw [same_defs]
  exact frame_any (F := Bits) m g

/-- The reference has no semaphores, and its run leaves the argument as it was. -/
theorem frame_referenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- Every device's result is the sum of the four blocks of the whole argument. -/
theorem result_eq (m : (ℓ : Loc Cert.KernelIdeal.nD Cert.KernelIdeal.τ Cert.KernelIdeal.sig) → Buf (Elt Ideal) ℓ) (x : Cert.ReferenceIdeal.S16384x1024.Idx → EReal)
    (h : ∀ c : Dev Cert.KernelIdeal.nD, m ((c.tc : Thread Cert.KernelIdeal.nD Cert.KernelIdeal.τ).loc Cert.KernelIdeal.main_arg0)
      = Layout.block ⟨2, ![4096, 1024]⟩ ⟨2, ![16384, 1024]⟩ 0 4 c x) :
    Cert.KernelIdeal.Ring.outAt (F := Ideal) m = Cert.ReferenceIdeal.Sum.value x := by
  funext i
  refine (Cert.KernelIdeal.Ring.outAt_sum m i).trans (Eq.trans ?_ (Cert.ReferenceIdeal.Sum.value_apply x i).symm)
  exact Finset.sum_congr (M := EReal) rfl fun d _ => congrFun (h d) i

/-- Over the reals every device ends with the reference's result. -/
theorem algebraic : Cert.algebraic_KernelIdeal_ReferenceIdeal := fun m g m' g' _ hx =>
  ⟨Cert.ReferenceIdeal.Sum.value (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (result_eq m _ hx), (h.1 c).2⟩) (run_kernel (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
